-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_inputs_finite.lean ====
abbrev S8192x4096 : Shape := ⟨2, ![8192, 4096]⟩
abbrev S16384x12320 : Shape := ⟨2, ![16384, 12320]⟩
abbrev S2x2x8 : Shape := ⟨3, ![2, 2, 8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x12320 : S_.BroadcastsInDim S16384x12320 (![] : Fin 0 → Fin S16384x12320.rank)
  reducesTo_S16384x12320_S_d0_1 : S16384x12320.ReducesTo [0, 1] S_
  bcast_S_S2x2x8 : S_.BroadcastsInDim S2x2x8 (![] : Fin 0 → Fin S2x2x8.rank)
  reducesTo_S2x2x8_S_d0_1_2 : S2x2x8.ReducesTo [0, 1, 2] S_

variable [Facts]

def fn {F : FTy → Type} [FloatOps F] (main_arg0 : FVec F S8192x4096 .f32) (main_arg1 : FVec F S16384x12320 .f32) (main_arg2 : FVec F S2x2x8 .f32) : IVec S_ 1 × IVec S_ 1 × IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x12320 .f32 := Host.absf main_arg1
  let main_cst_0 : FVec F S_ .f32 := constant S_ .f32 0x7F800000#32
  let main_v5 : FVec F S16384x12320 .f32 := broadcastInDim S16384x12320 ![] bcast_S_S16384x12320 main_cst_0
  let main_v6 : IVec S16384x12320 1 := cmpf .olt main_v4 main_v5
  let main_c_1 : IVec S_ 1 := constantI S_ 1 1#1
  let main_v7 : IVec S_ 1 := (fun x v => Host.reduce IntOp.andi x v reducesTo_S16384x12320_S_d0_1 h_S_) main_v6 main_c_1
  let main_v8 : FVec F S2x2x8 .f32 := Host.absf main_arg2
  let main_cst_2 : FVec F S_ .f32 := constant S_ .f32 0x7F800000#32
  let main_v9 : FVec F S2x2x8 .f32 := broadcastInDim S2x2x8 ![] bcast_S_S2x2x8 main_cst_2
  let main_v10 : IVec S2x2x8 1 := cmpf .olt main_v8 main_v9
  let main_c_3 : IVec S_ 1 := constantI S_ 1 1#1
  let main_v11 : IVec S_ 1 := (fun x v => Host.reduce IntOp.andi x v reducesTo_S2x2x8_S_d0_1_2 h_S_) main_v10 main_c_3
  (main_v3, main_v7, main_v11)
-- ==== Kernel.lean ====
abbrev S8192x4096 : Shape := ⟨2, ![8192, 4096]⟩
abbrev S16384x12320 : Shape := ⟨2, ![16384, 12320]⟩
abbrev S2x2x8 : Shape := ⟨3, ![2, 2, 8]⟩
abbrev S16384x32 : Shape := ⟨2, ![16384, 32]⟩
abbrev S16384x2x2x8 : Shape := ⟨4, ![16384, 2, 2, 8]⟩
abbrev S2x8x16384x2 : Shape := ⟨4, ![2, 8, 16384, 2]⟩
abbrev S2x8x2 : Shape := ⟨3, ![2, 8, 2]⟩
abbrev S2x8x1x2 : Shape := ⟨4, ![2, 8, 1, 2]⟩
abbrev S16384x12288 : Shape := ⟨2, ![16384, 12288]⟩
abbrev S2x8192x4096 : Shape := ⟨3, ![2, 8192, 4096]⟩
abbrev S32x2x8x256x512 : Shape := ⟨5, ![32, 2, 8, 256, 512]⟩
abbrev S32x2x8x1x256 : Shape := ⟨5, ![32, 2, 8, 1, 256]⟩
abbrev S32x2x8x1x1 : Shape := ⟨5, ![32, 2, 8, 1, 1]⟩
abbrev S256x1024 : Shape := ⟨2, ![256, 1024]⟩
abbrev S256x2048 : Shape := ⟨2, ![256, 2048]⟩
abbrev S1x4x256x2 : Shape := ⟨4, ![1, 4, 256, 2]⟩
abbrev S1x4x1x2 : Shape := ⟨4, ![1, 4, 1, 2]⟩
abbrev S1x256x2048 : Shape := ⟨3, ![1, 256, 2048]⟩
abbrev S1x1x4x256x512 : Shape := ⟨5, ![1, 1, 4, 256, 512]⟩
abbrev S1x1x4x1x256 : Shape := ⟨5, ![1, 1, 4, 1, 256]⟩
abbrev S1x1x4x1x1 : Shape := ⟨5, ![1, 1, 4, 1, 1]⟩
abbrev S4x256x512 : Shape := ⟨3, ![4, 256, 512]⟩
abbrev S4x1x256 : Shape := ⟨3, ![4, 1, 256]⟩
abbrev S4x1x1 : Shape := ⟨3, ![4, 1, 1]⟩
abbrev S128x128 : Shape := ⟨2, ![128, 128]⟩
abbrev S128x256 : Shape := ⟨2, ![128, 256]⟩
abbrev S128x512 : Shape := ⟨2, ![128, 512]⟩
abbrev S1x1x128x2 : Shape := ⟨4, ![1, 1, 128, 2]⟩
abbrev S128x2 : Shape := ⟨2, ![128, 2]⟩
abbrev S1x1x1x2 : Shape := ⟨4, ![1, 1, 1, 2]⟩
abbrev S1x2 : Shape := ⟨2, ![1, 2]⟩
abbrev S1x256x512 : Shape := ⟨3, ![1, 256, 512]⟩
abbrev S256x512 : Shape := ⟨2, ![256, 512]⟩
abbrev S1x1x256 : Shape := ⟨3, ![1, 1, 256]⟩
abbrev S1x256 : Shape := ⟨2, ![1, 256]⟩
abbrev S1x1x1 : Shape := ⟨3, ![1, 1, 1]⟩
abbrev S1x1 : Shape := ⟨2, ![1, 1]⟩
abbrev S128x1 : Shape := ⟨2, ![128, 1]⟩
abbrev S128 : Shape := ⟨1, ![128]⟩
abbrev S1x128 : Shape := ⟨2, ![1, 128]⟩
abbrev S1 : Shape := ⟨1, ![1]⟩
abbrev S256 : Shape := ⟨1, ![256]⟩
abbrev S1x128x512 : Shape := ⟨3, ![1, 128, 512]⟩

abbrev nBuf : Space → Nat
  | .hbm => 13
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S16384x12320, .f32⟩
  | .hbm, ⟨2, _⟩ => ⟨S2x2x8, .f32⟩
  | .hbm, ⟨3, _⟩ => ⟨S16384x32, .f32⟩
  | .hbm, ⟨4, _⟩ => ⟨S16384x2x2x8, .f32⟩
  | .hbm, ⟨5, _⟩ => ⟨S2x8x16384x2, .f32⟩
  | .hbm, ⟨6, _⟩ => ⟨S2x8x2, .f32⟩
  | .hbm, ⟨7, _⟩ => ⟨S2x8x1x2, .f32⟩
  | .hbm, ⟨8, _⟩ => ⟨S16384x12288, .f32⟩
  | .hbm, ⟨9, _⟩ => ⟨S2x8192x4096, .f32⟩
  | .hbm, ⟨10, _⟩ => ⟨S32x2x8x256x512, .f32⟩
  | .hbm, ⟨11, _⟩ => ⟨S32x2x8x1x256, .f32⟩
  | .hbm, ⟨12, _⟩ => ⟨S32x2x8x1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x4x256x2, .f32⟩
  | .local _ .vmem, ⟨7, _⟩ => ⟨S1x4x256x2, .f32⟩
  | .local _ .vmem, ⟨8, _⟩ => ⟨S1x4x1x2, .f32⟩
  | .local _ .vmem, ⟨9, _⟩ => ⟨S1x4x1x2, .f32⟩
  | .local _ .vmem, ⟨10, _⟩ => ⟨S1x256x2048, .f32⟩
  | .local _ .vmem, ⟨11, _⟩ => ⟨S1x256x2048, .f32⟩
  | .local _ .vmem, ⟨12, _⟩ => ⟨S1x1x4x256x512, .f32⟩
  | .local _ .vmem, ⟨13, _⟩ => ⟨S1x1x4x256x512, .f32⟩
  | .local _ .vmem, ⟨14, _⟩ => ⟨S1x1x4x1x256, .f32⟩
  | .local _ .vmem, ⟨15, _⟩ => ⟨S1x1x4x1x256, .f32⟩
  | .local _ .vmem, ⟨16, _⟩ => ⟨S1x1x4x1x1, .f32⟩
  | .local _ .vmem, ⟨17, _⟩ => ⟨S1x1x4x1x1, .f32⟩
  | .local _ .vmem, ⟨18, _⟩ => ⟨S4x256x512, .f32⟩
  | .local _ .vmem, ⟨19, _⟩ => ⟨S4x1x256, .f32⟩
  | .local _ .vmem, ⟨20, _⟩ => ⟨S4x1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![32, 2, 2, 1], ![false, false, false, false]⟩

@[reducible] def k0_t1_loop : Scf.Loop 32 :=
  let c0_i32_3 : BitVec 32 := 0#32
  let c2_i32_4 : BitVec 32 := 2#32
  let v18 : BitVec 32 := Scalar.addi c0_i32_3 c2_i32_4
  let c1_i32_5 : BitVec 32 := 1#32
  ⟨c0_i32_3, v18, c1_i32_5⟩
def k0_mult1 (i : grid0.Coords) (k0_t1 : Fin k0_t1_loop.trips) : BitVec 32 :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  v26
def k0_off1 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v28 : Index := Scalar.indexCast v27
  let c0 : Index := 0#32
  ![v28.toNat, 0]
def k0_off2 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v32 : Index := Scalar.indexCast v27
  let c0_12 : Index := 0#32
  ![v32.toNat, 0]
def k0_off3 (i : grid0.Coords) (k0_t1 : Fin k0_t1_loop.trips) : Fin 4 → Nat :=
  let c0_13 : Index := 0#32
  let c0_14 : Index := 0#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v35 : Index := Scalar.indexCast v27
  let c0_15 : Index := 0#32
  ![0, 0, v35.toNat, 0]
def k0_off4 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v48 : Index := Scalar.indexCast v27
  let c256 : Index := 256#32
  ![v48.toNat, 256]
def k0_off5 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v52 : Index := Scalar.indexCast v27
  let c512 : Index := 512#32
  ![v52.toNat, 512]
def k0_off6 (i : grid0.Coords) (k0_t1 : Fin k0_t1_loop.trips) : Fin 4 → Nat :=
  let c0_30 : Index := 0#32
  let c1 : Index := 1#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v55 : Index := Scalar.indexCast v27
  let c0_31 : Index := 0#32
  ![0, 1, v55.toNat, 0]
def k0_off7 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v68 : Index := Scalar.indexCast v27
  let c512_45 : Index := 512#32
  ![v68.toNat, 512]
def k0_off8 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v72 : Index := Scalar.indexCast v27
  let c1024 : Index := 1024#32
  ![v72.toNat, 1024]
def k0_off9 (i : grid0.Coords) (k0_t1 : Fin k0_t1_loop.trips) : Fin 4 → Nat :=
  let c0_47 : Index := 0#32
  let c2 : Index := 2#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v75 : Index := Scalar.indexCast v27
  let c0_48 : Index := 0#32
  ![0, 2, v75.toNat, 0]
def k0_off10 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v88 : Index := Scalar.indexCast v27
  let c768 : Index := 768#32
  ![v88.toNat, 768]
def k0_off11 (i : grid0.Coords) (k0_t1 : Fin k0_t1_loop.trips) : Fin 2 → Nat :=
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v92 : Index := Scalar.indexCast v27
  let c1536 : Index := 1536#32
  ![v92.toNat, 1536]
def k0_off12 (i : grid0.Coords) (k0_t1 : Fin k0_t1_loop.trips) : Fin 4 → Nat :=
  let c0_63 : Index := 0#32
  let c3 : Index := 3#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v95 : Index := Scalar.indexCast v27
  let c0_64 : Index := 0#32
  ![0, 3, v95.toNat, 0]
def k0_off13 (i : grid0.Coords) (k0_t1 : Fin k0_t1_loop.trips) : Fin 3 → Nat :=
  let c0_161 : Index := 0#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v524 : Index := Scalar.indexCast v27
  let c0_162 : Index := 0#32
  ![0, v524.toNat, 0]
def k0_off14 (i : grid0.Coords) (k0_t1 : Fin k0_t1_loop.trips) : Fin 3 → Nat :=
  let c0_172 : Index := 0#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v537 : Index := Scalar.indexCast v27
  let c512_173 : Index := 512#32
  ![0, v537.toNat, 512]
def k0_off15 (i : grid0.Coords) (k0_t1 : Fin k0_t1_loop.trips) : Fin 3 → Nat :=
  let c0_183 : Index := 0#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v550 : Index := Scalar.indexCast v27
  let c1024_184 : Index := 1024#32
  ![0, v550.toNat, 1024]
def k0_off16 (i : grid0.Coords) (k0_t1 : Fin k0_t1_loop.trips) : Fin 3 → Nat :=
  let c0_194 : Index := 0#32
  let c0_i32_3 : BitVec 32 := 0#32
  let c1_i32_5 : BitVec 32 := 1#32
  let arg16 : BitVec 32 := Scf.iv c0_i32_3 c1_i32_5 k0_t1
  let arg2 : BitVec 32 := BitVec.ofNat 32 (i 2).val
  let c1_i32_10 : BitVec 32 := 1#32
  let c2_i32_9 : BitVec 32 := 2#32
  let v22 : BitVec 32 := Scalar.muli c2_i32_9 arg16
  let v23 : BitVec 32 := Scalar.subi c1_i32_10 v22
  let v24 : BitVec 32 := Scalar.muli arg2 v23
  let v25 : BitVec 32 := Scalar.addi arg16 v24
  let c128_i32 : BitVec 32 := 128#32
  let v26 : BitVec 32 := Scalar.muli v25 c128_i32
  let v27 : BitVec 32 := v26
  let v563 : Index := Scalar.indexCast v27
  let c1536_195 : Index := 1536#32
  ![0, v563.toNat, 1536]
def k0_cond2 (i : grid0.Coords) : BitVec 1 :=
  let arg3 : BitVec 32 := BitVec.ofNat 32 (i 3).val
  let c0_i32_7 : BitVec 32 := 0#32
  let v19 : BitVec 1 := Scalar.cmpi .eq arg3 c0_i32_7
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let c2_i32 : BitVec 32 := 2#32
  let v1 : BitVec 32 := Scalar.muli c2_i32 arg3
  let c0_i32 : BitVec 32 := 0#32
  let v2 : BitVec 32 := Scalar.subi c0_i32 v1
  let v3 : BitVec 32 := Scalar.muli arg2 v2
  let v4 : BitVec 32 := Scalar.addi arg3 v3
  let v5 : BitVec 32 := Scalar.addi v0 v4
  let c0_i32_0 : BitVec 32 := 0#32
  ![v5.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let c2_i32 : BitVec 32 := 2#32
  let v1 : BitVec 32 := Scalar.muli c2_i32 arg3
  let c0_i32 : BitVec 32 := 0#32
  let v2 : BitVec 32 := Scalar.subi c0_i32 v1
  let v3 : BitVec 32 := Scalar.muli arg2 v2
  let v4 : BitVec 32 := Scalar.addi arg3 v3
  let v5 : BitVec 32 := Scalar.addi v0 v4
  let c2_i32_0 : BitVec 32 := 2#32
  let v6 : BitVec 32 := Scalar.addi c2_i32_0 arg1
  let c0_i32_1 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let c2_i32 : BitVec 32 := 2#32
  let v1 : BitVec 32 := Scalar.muli c2_i32 arg3
  let c0_i32 : BitVec 32 := 0#32
  let v2 : BitVec 32 := Scalar.subi c0_i32 v1
  let v3 : BitVec 32 := Scalar.muli arg2 v2
  let v4 : BitVec 32 := Scalar.addi arg3 v3
  let v5 : BitVec 32 := Scalar.addi v0 v4
  let c0_i32_0 : BitVec 32 := 0#32
  let v6 : BitVec 32 := Scalar.addi c0_i32_0 v5
  let c2_i32_1 : BitVec 32 := 2#32
  let v7 : BitVec 32 := Scalar.addi c2_i32_1 arg1
  let c0_i32_2 : BitVec 32 := 0#32
  ![v6.toNat, v7.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let c2_i32 : BitVec 32 := 2#32
  let v1 : BitVec 32 := Scalar.muli c2_i32 arg3
  let c0_i32 : BitVec 32 := 0#32
  let v2 : BitVec 32 := Scalar.subi c0_i32 v1
  let v3 : BitVec 32 := Scalar.muli arg2 v2
  let v4 : BitVec 32 := Scalar.addi arg3 v3
  let v5 : BitVec 32 := Scalar.addi v0 v4
  let c0_i32_0 : BitVec 32 := 0#32
  let v6 : BitVec 32 := Scalar.addi c0_i32_0 v5
  let c0_i32_1 : BitVec 32 := 0#32
  let c0_i32_2 : BitVec 32 := 0#32
  ![arg2.toNat, arg1.toNat, v6.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let c2_i32 : BitVec 32 := 2#32
  let v1 : BitVec 32 := Scalar.muli c2_i32 arg3
  let c0_i32 : BitVec 32 := 0#32
  let v2 : BitVec 32 := Scalar.subi c0_i32 v1
  let v3 : BitVec 32 := Scalar.muli arg2 v2
  let v4 : BitVec 32 := Scalar.addi arg3 v3
  let v5 : BitVec 32 := Scalar.addi v0 v4
  let c0_i32_0 : BitVec 32 := 0#32
  ![arg2.toNat, v5.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x4x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x4x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1x1x4x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x1x4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== ReferenceIdeal.lean ====
abbrev S8192x4096 : Shape := ⟨2, ![8192, 4096]⟩
abbrev S16384x12320 : Shape := ⟨2, ![16384, 12320]⟩
abbrev S2x2x8 : Shape := ⟨3, ![2, 2, 8]⟩
abbrev S32x256x4096 : Shape := ⟨3, ![32, 256, 4096]⟩
abbrev S8192x12320 : Shape := ⟨2, ![8192, 12320]⟩
abbrev S32x256x12320 : Shape := ⟨3, ![32, 256, 12320]⟩
abbrev S32x256x2048 : Shape := ⟨3, ![32, 256, 2048]⟩
abbrev S32x256x8x256 : Shape := ⟨4, ![32, 256, 8, 256]⟩
abbrev S32x8x256x256 : Shape := ⟨4, ![32, 8, 256, 256]⟩
abbrev S_ : Shape := ⟨0, ![]⟩
abbrev S32x256x8x512 : Shape := ⟨4, ![32, 256, 8, 512]⟩
abbrev S32x8x256x512 : Shape := ⟨4, ![32, 8, 256, 512]⟩
abbrev S32x256x32 : Shape := ⟨3, ![32, 256, 32]⟩
abbrev S32x256x2x2x8 : Shape := ⟨5, ![32, 256, 2, 2, 8]⟩
abbrev S1x1x2x2x8 : Shape := ⟨5, ![1, 1, 2, 2, 8]⟩
abbrev S2x2x32x8x256 : Shape := ⟨5, ![2, 2, 32, 8, 256]⟩
abbrev S1x1x32x8x256 : Shape := ⟨5, ![1, 1, 32, 8, 256]⟩
abbrev S32x8x256 : Shape := ⟨3, ![32, 8, 256]⟩
abbrev S64x8x256 : Shape := ⟨3, ![64, 8, 256]⟩
abbrev S64x8x256x512 : Shape := ⟨4, ![64, 8, 256, 512]⟩
abbrev S64x8 : Shape := ⟨2, ![64, 8]⟩
abbrev S64x8x256x256 : Shape := ⟨4, ![64, 8, 256, 256]⟩
abbrev S64x64 : Shape := ⟨2, ![64, 64]⟩
abbrev S64x8x4x64x256 : Shape := ⟨5, ![64, 8, 4, 64, 256]⟩
abbrev S4x64x8x64x256 : Shape := ⟨5, ![4, 64, 8, 64, 256]⟩
abbrev S64x8x4x64x512 : Shape := ⟨5, ![64, 8, 4, 64, 512]⟩
abbrev S4x64x8x64x512 : Shape := ⟨5, ![4, 64, 8, 64, 512]⟩
abbrev S64x8x4x64 : Shape := ⟨4, ![64, 8, 4, 64]⟩
abbrev S4x64x8x64 : Shape := ⟨4, ![4, 64, 8, 64]⟩
abbrev S1x64x8x64x256 : Shape := ⟨5, ![1, 64, 8, 64, 256]⟩
abbrev S64x8x64x256 : Shape := ⟨4, ![64, 8, 64, 256]⟩
abbrev S1x64x8x64x512 : Shape := ⟨5, ![1, 64, 8, 64, 512]⟩
abbrev S64x8x64x512 : Shape := ⟨4, ![64, 8, 64, 512]⟩
abbrev S1x64x8x64 : Shape := ⟨4, ![1, 64, 8, 64]⟩
abbrev S64x8x64 : Shape := ⟨3, ![64, 8, 64]⟩
abbrev S64x8x64x1 : Shape := ⟨4, ![64, 8, 64, 1]⟩
abbrev S64x8x1x64 : Shape := ⟨4, ![64, 8, 1, 64]⟩
abbrev S64x8x64x64 : Shape := ⟨4, ![64, 8, 64, 64]⟩
abbrev S64x8x1 : Shape := ⟨3, ![64, 8, 1]⟩
abbrev S64x8x1x1 : Shape := ⟨4, ![64, 8, 1, 1]⟩
abbrev S1x32x8x256x512 : Shape := ⟨5, ![1, 32, 8, 256, 512]⟩
abbrev S2x32x8x256x512 : Shape := ⟨5, ![2, 32, 8, 256, 512]⟩
abbrev S2x32x256x8x512 : Shape := ⟨5, ![2, 32, 256, 8, 512]⟩
abbrev S2x8192x4096 : Shape := ⟨3, ![2, 8192, 4096]⟩
abbrev S32x1x8x256x512 : Shape := ⟨5, ![32, 1, 8, 256, 512]⟩
abbrev S32x2x8x256x512 : Shape := ⟨5, ![32, 2, 8, 256, 512]⟩
abbrev S32x1x8x256 : Shape := ⟨4, ![32, 1, 8, 256]⟩
abbrev S32x2x8x256 : Shape := ⟨4, ![32, 2, 8, 256]⟩
abbrev S32x2x8x1x256 : Shape := ⟨5, ![32, 2, 8, 1, 256]⟩
abbrev S32x8 : Shape := ⟨2, ![32, 8]⟩
abbrev S32x1x8 : Shape := ⟨3, ![32, 1, 8]⟩
abbrev S32x2x8 : Shape := ⟨3, ![32, 2, 8]⟩
abbrev S32x2x8x1x1 : Shape := ⟨5, ![32, 2, 8, 1, 1]⟩

abbrev nBuf : Space → Nat
  | .hbm => 259
  | .vmem => 0
  | .smem => 0
  | _ => 0

abbrev hbmTy0_0 (i : Nat) : BufTy := match i % 128 with
  | 0 => ⟨S8192x4096, .f32⟩
  | 1 => ⟨S16384x12320, .f32⟩
  | 2 => ⟨S2x2x8, .f32⟩
  | 3 => ⟨S32x256x4096, .f32⟩
  | 4 => ⟨S8192x12320, .f32⟩
  | 5 => ⟨S32x256x12320, .f32⟩
  | 6 => ⟨S32x256x2048, .f32⟩
  | 7 => ⟨S32x256x8x256, .f32⟩
  | 8 => ⟨S32x8x256x256, .f32⟩
  | 9 => ⟨S_, .f32⟩
  | 10 => ⟨S32x8x256x256, .f32⟩
  | 11 => ⟨S32x8x256x256, .f32⟩
  | 12 => ⟨S32x256x2048, .f32⟩
  | 13 => ⟨S32x256x8x256, .f32⟩
  | 14 => ⟨S32x8x256x256, .f32⟩
  | 15 => ⟨S32x256x4096, .f32⟩
  | 16 => ⟨S32x256x8x512, .f32⟩
  | 17 => ⟨S32x8x256x512, .f32⟩
  | 18 => ⟨S32x256x32, .f32⟩
  | 19 => ⟨S32x256x2x2x8, .f32⟩
  | 20 => ⟨S1x1x2x2x8, .f32⟩
  | 21 => ⟨S32x256x2x2x8, .f32⟩
  | 22 => ⟨S32x256x2x2x8, .f32⟩
  | 23 => ⟨S2x2x32x8x256, .f32⟩
  | 24 => ⟨S1x1x32x8x256, .f32⟩
  | 25 => ⟨S32x8x256, .f32⟩
  | 26 => ⟨S1x1x32x8x256, .f32⟩
  | 27 => ⟨S32x8x256, .f32⟩
  | 28 => ⟨S32x8x256, .f32⟩
  | 29 => ⟨S64x8x256, .f32⟩
  | 30 => ⟨S1x1x32x8x256, .f32⟩
  | 31 => ⟨S32x8x256, .f32⟩
  | 32 => ⟨S32x8x256, .f32⟩
  | 33 => ⟨S_, .f32⟩
  | 34 => ⟨S32x8x256, .f32⟩
  | 35 => ⟨S32x8x256, .f32⟩
  | 36 => ⟨S32x8x256, .f32⟩
  | 37 => ⟨S32x8x256, .f32⟩
  | 38 => ⟨S32x8x256, .i1⟩
  | 39 => ⟨S32x8x256, .f32⟩
  | 40 => ⟨S32x8x256, .f32⟩
  | 41 => ⟨S32x8x256, .f32⟩
  | 42 => ⟨S32x8x256, .f32⟩
  | 43 => ⟨S32x8x256, .f32⟩
  | 44 => ⟨S32x8x256, .f32⟩
  | 45 => ⟨S32x8x256, .f32⟩
  | 46 => ⟨S32x8x256, .f32⟩
  | 47 => ⟨S32x8x256, .f32⟩
  | 48 => ⟨S1x1x32x8x256, .f32⟩
  | 49 => ⟨S32x8x256, .f32⟩
  | 50 => ⟨S32x8x256, .f32⟩
  | 51 => ⟨S_, .f32⟩
  | 52 => ⟨S32x8x256, .f32⟩
  | 53 => ⟨S32x8x256, .f32⟩
  | 54 => ⟨S32x8x256, .f32⟩
  | 55 => ⟨S32x8x256, .f32⟩
  | 56 => ⟨S32x8x256, .i1⟩
  | 57 => ⟨S32x8x256, .f32⟩
  | 58 => ⟨S32x8x256, .f32⟩
  | 59 => ⟨S32x8x256, .f32⟩
  | 60 => ⟨S32x8x256, .f32⟩
  | 61 => ⟨S32x8x256, .f32⟩
  | 62 => ⟨S32x8x256, .f32⟩
  | 63 => ⟨S32x8x256, .f32⟩
  | 64 => ⟨S32x8x256, .f32⟩
  | 65 => ⟨S32x8x256, .f32⟩
  | 66 => ⟨S32x8x256, .f32⟩
  | 67 => ⟨S64x8x256, .f32⟩
  | 68 => ⟨S_, .f32⟩
  | 69 => ⟨S64x8x256x512, .f32⟩
  | 70 => ⟨S_, .f32⟩
  | 71 => ⟨S64x8x256, .f32⟩
  | 72 => ⟨S_, .f32⟩
  | 73 => ⟨S64x8, .f32⟩
  | 74 => ⟨S32x8x256x256, .f32⟩
  | 75 => ⟨S64x8x256x256, .f32⟩
  | 76 => ⟨S32x8x256x256, .f32⟩
  | 77 => ⟨S64x8x256x256, .f32⟩
  | 78 => ⟨S32x8x256x512, .f32⟩
  | 79 => ⟨S64x8x256x512, .f32⟩
  | 80 => ⟨S_, .i1⟩
  | 81 => ⟨S64x64, .i1⟩
  | 82 => ⟨S64x64, .i32⟩
  | 83 => ⟨S_, .i32⟩
  | 84 => ⟨S64x64, .i32⟩
  | 85 => ⟨S64x64, .i32⟩
  | 86 => ⟨S64x64, .i32⟩
  | 87 => ⟨S64x64, .i1⟩
  | 88 => ⟨S_, .i1⟩
  | 89 => ⟨S64x64, .i1⟩
  | 90 => ⟨S64x64, .i1⟩
  | 91 => ⟨S64x8x4x64x256, .f32⟩
  | 92 => ⟨S4x64x8x64x256, .f32⟩
  | 93 => ⟨S64x8x4x64x256, .f32⟩
  | 94 => ⟨S4x64x8x64x256, .f32⟩
  | 95 => ⟨S64x8x4x64x512, .f32⟩
  | 96 => ⟨S4x64x8x64x512, .f32⟩
  | 97 => ⟨S64x8x4x64, .f32⟩
  | 98 => ⟨S4x64x8x64, .f32⟩
  | 99 => ⟨S64x8x4x64, .f32⟩
  | 100 => ⟨S4x64x8x64, .f32⟩
  | 101 => ⟨S_, .f32⟩
  | 102 => ⟨S4x64x8x64x512, .f32⟩
  | 103 => ⟨S_, .i32⟩
  | 104 => ⟨S4x64x8x64x256, .f32⟩
  | 105 => ⟨S4x64x8x64x256, .f32⟩
  | 106 => ⟨S4x64x8x64x512, .f32⟩
  | 107 => ⟨S4x64x8x64, .f32⟩
  | 108 => ⟨S4x64x8x64, .f32⟩
  | 109 => ⟨S64x64, .i1⟩
  | 110 => ⟨S_, .i32⟩
  | 111 => ⟨S64x8x256x512, .f32⟩
  | 112 => ⟨S64x8x256, .f32⟩
  | 113 => ⟨S64x8, .f32⟩
  | 114 => ⟨S4x64x8x64x512, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1x64x8x64x256, .f32⟩
  | 122 => ⟨S64x8x64x256, .f32⟩
  | 123 => ⟨S_, .i32⟩
  | 124 => ⟨S_, .i32⟩
  | 125 => ⟨S_, .i32⟩
  | 126 => ⟨S_, .i32⟩
  | 127 => ⟨S1x64x8x64x256, .f32⟩
  | _ => ⟨S8192x4096, .f32⟩

abbrev hbmTy0_1 (i : Nat) : BufTy := match i % 128 with
  | 0 => ⟨S64x8x64x256, .f32⟩
  | 1 => ⟨S_, .i32⟩
  | 2 => ⟨S_, .i32⟩
  | 3 => ⟨S_, .i32⟩
  | 4 => ⟨S_, .i32⟩
  | 5 => ⟨S1x64x8x64x512, .f32⟩
  | 6 => ⟨S64x8x64x512, .f32⟩
  | 7 => ⟨S_, .i32⟩
  | 8 => ⟨S_, .i32⟩
  | 9 => ⟨S_, .i32⟩
  | 10 => ⟨S1x64x8x64, .f32⟩
  | 11 => ⟨S64x8x64, .f32⟩
  | 12 => ⟨S_, .i32⟩
  | 13 => ⟨S_, .i32⟩
  | 14 => ⟨S_, .i32⟩
  | 15 => ⟨S1x64x8x64, .f32⟩
  | 16 => ⟨S64x8x64, .f32⟩
  | 17 => ⟨S_, .f32⟩
  | 18 => ⟨S_, .f32⟩
  | 19 => ⟨S64x8x64, .f32⟩
  | 20 => ⟨S64x8x64x1, .f32⟩
  | 21 => ⟨S64x8x1x64, .f32⟩
  | 22 => ⟨S64x8x64x64, .f32⟩
  | 23 => ⟨S64x8x64x64, .f32⟩
  | 24 => ⟨S64x8x64x64, .f32⟩
  | 25 => ⟨S64x8x1x64, .f32⟩
  | 26 => ⟨S64x8x64x64, .f32⟩
  | 27 => ⟨S64x8x64x64, .f32⟩
  | 28 => ⟨S_, .f32⟩
  | 29 => ⟨S_, .f32⟩
  | 30 => ⟨S64x8x64x64, .i1⟩
  | 31 => ⟨S64x8x64x64, .f32⟩
  | 32 => ⟨S64x8x64x64, .f32⟩
  | 33 => ⟨S64x8x1, .f32⟩
  | 34 => ⟨S64x8x64, .f32⟩
  | 35 => ⟨S64x8x64, .f32⟩
  | 36 => ⟨S_, .f32⟩
  | 37 => ⟨S64x8x64, .f32⟩
  | 38 => ⟨S64x8x64, .f32⟩
  | 39 => ⟨S64x8x64x64, .f32⟩
  | 40 => ⟨S64x8x64x1, .f32⟩
  | 41 => ⟨S64x8x64x64, .f32⟩
  | 42 => ⟨S64x8x64x64, .f32⟩
  | 43 => ⟨S64x8x64x64, .f32⟩
  | 44 => ⟨S64x8x64x64, .f32⟩
  | 45 => ⟨S64x8x64, .f32⟩
  | 46 => ⟨S64x8x64, .f32⟩
  | 47 => ⟨S64x8x64x512, .f32⟩
  | 48 => ⟨S64x8x64x1, .f32⟩
  | 49 => ⟨S64x8x64x512, .f32⟩
  | 50 => ⟨S64x8x64x512, .f32⟩
  | 51 => ⟨S64x8x64x512, .f32⟩
  | 52 => ⟨S64x8x64x512, .f32⟩
  | 53 => ⟨S_, .f32⟩
  | 54 => ⟨S64x8x64, .f32⟩
  | 55 => ⟨S64x8x64, .f32⟩
  | 56 => ⟨S64x8x64, .f32⟩
  | 57 => ⟨S64x8x64, .f32⟩
  | 58 => ⟨S64x8x64, .f32⟩
  | 59 => ⟨S64x8x64, .f32⟩
  | 60 => ⟨S64x8x64, .f32⟩
  | 61 => ⟨S64x8x64, .f32⟩
  | 62 => ⟨S64x8x64x1, .f32⟩
  | 63 => ⟨S64x8x64x512, .f32⟩
  | 64 => ⟨S64x8x64x512, .f32⟩
  | 65 => ⟨S64x8x1, .f32⟩
  | 66 => ⟨S64x8, .f32⟩
  | 67 => ⟨S64x8x1, .f32⟩
  | 68 => ⟨S64x8x64, .f32⟩
  | 69 => ⟨S64x8x64, .f32⟩
  | 70 => ⟨S64x8x64, .f32⟩
  | 71 => ⟨S64x8, .f32⟩
  | 72 => ⟨S_, .f32⟩
  | 73 => ⟨S64x8, .f32⟩
  | 74 => ⟨S64x8, .f32⟩
  | 75 => ⟨S64x8, .f32⟩
  | 76 => ⟨S64x8, .f32⟩
  | 77 => ⟨S64x8, .f32⟩
  | 78 => ⟨S64x8x1, .f32⟩
  | 79 => ⟨S64x8x64, .f32⟩
  | 80 => ⟨S64x8x64, .f32⟩
  | 81 => ⟨S64x8x64, .f32⟩
  | 82 => ⟨S64x8x64x1, .f32⟩
  | 83 => ⟨S64x8x64x256, .f32⟩
  | 84 => ⟨S64x8x64x256, .f32⟩
  | 85 => ⟨S64x8x1x1, .f32⟩
  | 86 => ⟨S64x8x256x512, .f32⟩
  | 87 => ⟨S64x8x256x512, .f32⟩
  | 88 => ⟨S64x8x256x512, .f32⟩
  | 89 => ⟨S64x8x256x512, .f32⟩
  | 90 => ⟨S64x8x1, .f32⟩
  | 91 => ⟨S64x8x256, .f32⟩
  | 92 => ⟨S64x8x256, .f32⟩
  | 93 => ⟨S_, .f32⟩
  | 94 => ⟨S64x8x256, .f32⟩
  | 95 => ⟨S64x8x256, .f32⟩
  | 96 => ⟨S1x64x8x64x512, .f32⟩
  | 97 => ⟨S_, .i32⟩
  | 98 => ⟨S_, .i32⟩
  | 99 => ⟨S_, .i32⟩
  | 100 => ⟨S_, .i32⟩
  | 101 => ⟨S4x64x8x64x512, .f32⟩
  | 102 => ⟨S_, .i32⟩
  | 103 => ⟨S_, .i32⟩
  | 104 => ⟨S64x8x4x64x512, .f32⟩
  | 105 => ⟨S64x8x256x512, .f32⟩
  | 106 => ⟨S32x8x256x512, .f32⟩
  | 107 => ⟨S32x8x256x512, .f32⟩
  | 108 => ⟨S32x8x256x512, .f32⟩
  | 109 => ⟨S1x32x8x256x512, .f32⟩
  | 110 => ⟨S1x32x8x256x512, .f32⟩
  | 111 => ⟨S2x32x8x256x512, .f32⟩
  | 112 => ⟨S2x32x256x8x512, .f32⟩
  | 113 => ⟨S2x8192x4096, .f32⟩
  | 114 => ⟨S32x8x256x512, .f32⟩
  | 115 => ⟨S32x8x256x512, .f32⟩
  | 116 => ⟨S32x1x8x256x512, .f32⟩
  | 117 => ⟨S32x1x8x256x512, .f32⟩
  | 118 => ⟨S32x2x8x256x512, .f32⟩
  | 119 => ⟨S32x8x256, .f32⟩
  | 120 => ⟨S32x8x256, .f32⟩
  | 121 => ⟨S32x1x8x256, .f32⟩
  | 122 => ⟨S32x1x8x256, .f32⟩
  | 123 => ⟨S32x2x8x256, .f32⟩
  | 124 => ⟨S32x2x8x1x256, .f32⟩
  | 125 => ⟨S32x8, .f32⟩
  | 126 => ⟨S32x8, .f32⟩
  | 127 => ⟨S32x1x8, .f32⟩
  | _ => ⟨S8192x4096, .f32⟩

abbrev hbmTy0_2 (i : Nat) : BufTy := match i % 128 with
  | 0 => ⟨S32x1x8, .f32⟩
  | 1 => ⟨S32x2x8, .f32⟩
  | 2 => ⟨S32x2x8x1x1, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_v0 : Ref sig .tc := ⟨.hbm, 50, rfl⟩
abbrev main_call2_call0_cst : Ref sig .tc := ⟨.hbm, 51, rfl⟩
abbrev main_call2_call0_v0 : Ref sig .tc := ⟨.hbm, 52, rfl⟩
abbrev main_call2_call0_v1 : Ref sig .tc := ⟨.hbm, 53, rfl⟩
abbrev main_call2_call0_v2 : Ref sig .tc := ⟨.hbm, 54, rfl⟩
abbrev main_call2_call0_v3 : Ref sig .tc := ⟨.hbm, 55, rfl⟩
abbrev main_call2_call0_v4 : Ref sig .tc := ⟨.hbm, 56, rfl⟩
abbrev main_call2_call0_v5 : Ref sig .tc := ⟨.hbm, 57, rfl⟩
abbrev main_call2_call0_v6 : Ref sig .tc := ⟨.hbm, 58, rfl⟩
abbrev main_call2_call0_v7 : Ref sig .tc := ⟨.hbm, 59, rfl⟩
abbrev main_call2_call0_v8 : Ref sig .tc := ⟨.hbm, 60, rfl⟩
abbrev main_call2_call0_v9 : Ref sig .tc := ⟨.hbm, 61, rfl⟩
abbrev main_call2_call0_v10 : Ref sig .tc := ⟨.hbm, 62, rfl⟩
abbrev main_call2_call0_v11 : Ref sig .tc := ⟨.hbm, 63, rfl⟩
abbrev main_call2_v1 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_0 : Ref sig .tc := ⟨.hbm, 68, rfl⟩
abbrev main_v34 : Ref sig .tc := ⟨.hbm, 69, rfl⟩
abbrev main_cst_1 : Ref sig .tc := ⟨.hbm, 70, rfl⟩
abbrev main_v35 : Ref sig .tc := ⟨.hbm, 71, rfl⟩
abbrev main_cst_2 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c : Ref sig .tc := ⟨.hbm, 80, rfl⟩
abbrev main_v43 : Ref sig .tc := ⟨.hbm, 81, rfl⟩
abbrev main_call7_v0 : Ref sig .tc := ⟨.hbm, 82, rfl⟩
abbrev main_call7_c : Ref sig .tc := ⟨.hbm, 83, rfl⟩
abbrev main_call7_v1 : Ref sig .tc := ⟨.hbm, 84, rfl⟩
abbrev main_call7_v2 : Ref sig .tc := ⟨.hbm, 85, rfl⟩
abbrev main_call7_v3 : Ref sig .tc := ⟨.hbm, 86, rfl⟩
abbrev main_call7_v4 : Ref sig .tc := ⟨.hbm, 87, rfl⟩
abbrev main_call7_c_0 : Ref sig .tc := ⟨.hbm, 88, rfl⟩
abbrev main_call7_v5 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_3 : Ref sig .tc := ⟨.hbm, 101, rfl⟩
abbrev main_v55 : Ref sig .tc := ⟨.hbm, 102, rfl⟩
abbrev main_c_4 : Ref sig .tc := ⟨.hbm, 103, rfl⟩
abbrev main_v56_0 : Ref sig .tc := ⟨.hbm, 104, rfl⟩
abbrev main_v56_1 : Ref sig .tc := ⟨.hbm, 105, rfl⟩
abbrev main_v56_2 : Ref sig .tc := ⟨.hbm, 106, rfl⟩
abbrev main_v56_3 : Ref sig .tc := ⟨.hbm, 107, rfl⟩
abbrev main_v56_4 : Ref sig .tc := ⟨.hbm, 108, rfl⟩
abbrev main_v56_5 : Ref sig .tc := ⟨.hbm, 109, rfl⟩
abbrev main_v56_6 : Ref sig .tc := ⟨.hbm, 110, rfl⟩
abbrev main_v56_7 : Ref sig .tc := ⟨.hbm, 111, rfl⟩
abbrev main_v56_8 : Ref sig .tc := ⟨.hbm, 112, rfl⟩
abbrev main_v56_9 : Ref sig .tc := ⟨.hbm, 113, rfl⟩
abbrev main_v56_10 : Ref sig .tc := ⟨.hbm, 114, rfl⟩
abbrev main_while0c_c_15 : Ref sig .tc := ⟨.hbm, 115, rfl⟩
abbrev main_while0c_v84 : Ref sig .tc := ⟨.hbm, 116, rfl⟩
abbrev main_while0b_call8_c : Ref sig .tc := ⟨.hbm, 117, rfl⟩
abbrev main_while0b_call8_c_0 : Ref sig .tc := ⟨.hbm, 118, rfl⟩
abbrev main_while0b_call8_c_1 : Ref sig .tc := ⟨.hbm, 119, rfl⟩
abbrev main_while0b_call8_c_2 : Ref sig .tc := ⟨.hbm, 120, rfl⟩
abbrev main_while0b_call8_v0 : Ref sig .tc := ⟨.hbm, 121, rfl⟩
abbrev main_while0b_v84 : Ref sig .tc := ⟨.hbm, 122, rfl⟩
abbrev main_while0b_call9_c : Ref sig .tc := ⟨.hbm, 123, rfl⟩
abbrev main_while0b_call9_c_0 : Ref sig .tc := ⟨.hbm, 124, rfl⟩
abbrev main_while0b_call9_c_1 : Ref sig .tc := ⟨.hbm, 125, rfl⟩
abbrev main_while0b_call9_c_2 : Ref sig .tc := ⟨.hbm, 126, rfl⟩
abbrev main_while0b_call9_v0 : Ref sig .tc := ⟨.hbm, 127, rfl⟩
abbrev main_while0b_v85 : Ref sig .tc := ⟨.hbm, 128, rfl⟩
abbrev main_while0b_call10_c : Ref sig .tc := ⟨.hbm, 129, rfl⟩
abbrev main_while0b_call10_c_0 : Ref sig .tc := ⟨.hbm, 130, rfl⟩
abbrev main_while0b_call10_c_1 : Ref sig .tc := ⟨.hbm, 131, rfl⟩
abbrev main_while0b_call10_c_2 : Ref sig .tc := ⟨.hbm, 132, rfl⟩
abbrev main_while0b_call10_v0 : Ref sig .tc := ⟨.hbm, 133, rfl⟩
abbrev main_while0b_v86 : Ref sig .tc := ⟨.hbm, 134, rfl⟩
abbrev main_while0b_call11_c : Ref sig .tc := ⟨.hbm, 135, rfl⟩
abbrev main_while0b_call11_c_0 : Ref sig .tc := ⟨.hbm, 136, rfl⟩
abbrev main_while0b_call11_c_1 : Ref sig .tc := ⟨.hbm, 137, rfl⟩
abbrev main_while0b_call11_v0 : Ref sig .tc := ⟨.hbm, 138, rfl⟩
abbrev main_while0b_v87 : Ref sig .tc := ⟨.hbm, 139, rfl⟩
abbrev main_while0b_call12_c : Ref sig .tc := ⟨.hbm, 140, rfl⟩
abbrev main_while0b_call12_c_0 : Ref sig .tc := ⟨.hbm, 141, rfl⟩
abbrev main_while0b_call12_c_1 : Ref sig .tc := ⟨.hbm, 142, rfl⟩
abbrev main_while0b_call12_v0 : Ref sig .tc := ⟨.hbm, 143, rfl⟩
abbrev main_while0b_v88 : Ref sig .tc := ⟨.hbm, 144, rfl⟩
abbrev main_while0b_call13_call0_cst : Ref sig .tc := ⟨.hbm, 145, rfl⟩
abbrev main_while0b_call13_call0_v0 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_cst_15 : Ref sig .tc := ⟨.hbm, 156, rfl⟩
abbrev main_while0b_call14_v0 : Ref sig .tc := ⟨.hbm, 157, rfl⟩
abbrev main_while0b_call14_v1 : Ref sig .tc := ⟨.hbm, 158, rfl⟩
abbrev main_while0b_call14_v2 : Ref sig .tc := ⟨.hbm, 159, rfl⟩
abbrev main_while0b_v98 : Ref sig .tc := ⟨.hbm, 160, rfl⟩
abbrev main_while0b_v99 : Ref sig .tc := ⟨.hbm, 161, rfl⟩
abbrev main_while0b_v100 : Ref sig .tc := ⟨.hbm, 162, rfl⟩
abbrev main_while0b_v101 : Ref sig .tc := ⟨.hbm, 163, rfl⟩
abbrev main_while0b_cst_16 : Ref sig .tc := ⟨.hbm, 164, rfl⟩
abbrev main_while0b_v102 : Ref sig .tc := ⟨.hbm, 165, rfl⟩
abbrev main_while0b_v103 : Ref sig .tc := ⟨.hbm, 166, rfl⟩
abbrev main_while0b_v104 : Ref sig .tc := ⟨.hbm, 167, rfl⟩
abbrev main_while0b_v105 : Ref sig .tc := ⟨.hbm, 168, rfl⟩
abbrev main_while0b_v106 : Ref sig .tc := ⟨.hbm, 169, rfl⟩
abbrev main_while0b_v107 : Ref sig .tc := ⟨.hbm, 170, rfl⟩
abbrev main_while0b_v108 : Ref sig .tc := ⟨.hbm, 171, rfl⟩
abbrev main_while0b_v109 : Ref sig .tc := ⟨.hbm, 172, rfl⟩
abbrev main_while0b_v110 : Ref sig .tc := ⟨.hbm, 173, rfl⟩
abbrev main_while0b_v111 : Ref sig .tc := ⟨.hbm, 174, rfl⟩
abbrev main_while0b_v112 : Ref sig .tc := ⟨.hbm, 175, rfl⟩
abbrev main_while0b_v113 : Ref sig .tc := ⟨.hbm, 176, rfl⟩
abbrev main_while0b_v114 : Ref sig .tc := ⟨.hbm, 177, rfl⟩
abbrev main_while0b_v115 : Ref sig .tc := ⟨.hbm, 178, rfl⟩
abbrev main_while0b_v116 : Ref sig .tc := ⟨.hbm, 179, rfl⟩
abbrev main_while0b_v117 : Ref sig .tc := ⟨.hbm, 180, rfl⟩
abbrev main_while0b_cst_17 : Ref sig .tc := ⟨.hbm, 181, rfl⟩
abbrev main_while0b_v118 : Ref sig .tc := ⟨.hbm, 182, rfl⟩
abbrev main_while0b_v119 : Ref sig .tc := ⟨.hbm, 183, rfl⟩
abbrev main_while0b_v120 : Ref sig .tc := ⟨.hbm, 184, rfl⟩
abbrev main_while0b_v121 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_v126 : Ref sig .tc := ⟨.hbm, 190, rfl⟩
abbrev main_while0b_v127 : Ref sig .tc := ⟨.hbm, 191, rfl⟩
abbrev main_while0b_v128 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_cst_18 : Ref sig .tc := ⟨.hbm, 200, rfl⟩
abbrev main_while0b_v136 : Ref sig .tc := ⟨.hbm, 201, rfl⟩
abbrev main_while0b_v137 : Ref sig .tc := ⟨.hbm, 202, rfl⟩
abbrev main_while0b_v138 : Ref sig .tc := ⟨.hbm, 203, rfl⟩
abbrev main_while0b_v139 : Ref sig .tc := ⟨.hbm, 204, rfl⟩
abbrev main_while0b_v140 : Ref sig .tc := ⟨.hbm, 205, rfl⟩
abbrev main_while0b_v141 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_v146 : Ref sig .tc := ⟨.hbm, 211, rfl⟩
abbrev main_while0b_v147 : Ref sig .tc := ⟨.hbm, 212, rfl⟩
abbrev main_while0b_v148 : Ref sig .tc := ⟨.hbm, 213, rfl⟩
abbrev main_while0b_v149 : Ref sig .tc := ⟨.hbm, 214, rfl⟩
abbrev main_while0b_v150 : Ref sig .tc := ⟨.hbm, 215, rfl⟩
abbrev main_while0b_v151 : Ref sig .tc := ⟨.hbm, 216, rfl⟩
abbrev main_while0b_v152 : Ref sig .tc := ⟨.hbm, 217, rfl⟩
abbrev main_while0b_v153 : Ref sig .tc := ⟨.hbm, 218, rfl⟩
abbrev main_while0b_v154 : Ref sig .tc := ⟨.hbm, 219, rfl⟩
abbrev main_while0b_v155 : Ref sig .tc := ⟨.hbm, 220, rfl⟩
abbrev main_while0b_cst_19 : Ref sig .tc := ⟨.hbm, 221, rfl⟩
abbrev main_while0b_v156 : Ref sig .tc := ⟨.hbm, 222, rfl⟩
abbrev main_while0b_v157 : Ref sig .tc := ⟨.hbm, 223, rfl⟩
abbrev main_while0b_call15_v0 : Ref sig .tc := ⟨.hbm, 224, rfl⟩
abbrev main_while0b_call15_c : Ref sig .tc := ⟨.hbm, 225, rfl⟩
abbrev main_while0b_call15_c_0 : Ref sig .tc := ⟨.hbm, 226, rfl⟩
abbrev main_while0b_call15_c_1 : Ref sig .tc := ⟨.hbm, 227, rfl⟩
abbrev main_while0b_call15_c_2 : Ref sig .tc := ⟨.hbm, 228, rfl⟩
abbrev main_while0b_v158 : Ref sig .tc := ⟨.hbm, 229, rfl⟩
abbrev main_while0b_c_20 : Ref sig .tc := ⟨.hbm, 230, rfl⟩
abbrev main_while0b_v159 : Ref sig .tc := ⟨.hbm, 231, rfl⟩
abbrev main_v57 : Ref sig .tc := ⟨.hbm, 232, rfl⟩
abbrev main_v58 : Ref sig .tc := ⟨.hbm, 233, rfl⟩
abbrev main_v59 : Ref sig .tc := ⟨.hbm, 234, rfl⟩
abbrev main_v60 : Ref sig .tc := ⟨.hbm, 235, rfl⟩
abbrev main_v61 : Ref sig .tc := ⟨.hbm, 236, rfl⟩
abbrev main_v62 : Ref sig .tc := ⟨.hbm, 237, rfl⟩
abbrev main_v63 : Ref sig .tc := ⟨.hbm, 238, rfl⟩
abbrev main_v64 : Ref sig .tc := ⟨.hbm, 239, rfl⟩
abbrev main_v65 : Ref sig .tc := ⟨.hbm, 240, rfl⟩
abbrev main_v66 : Ref sig .tc := ⟨.hbm, 241, rfl⟩
abbrev main_v67 : Ref sig .tc := ⟨.hbm, 242, rfl⟩
abbrev main_v68 : Ref sig .tc := ⟨.hbm, 243, rfl⟩
abbrev main_v69 : Ref sig .tc := ⟨.hbm, 244, rfl⟩
abbrev main_v70 : Ref sig .tc := ⟨.hbm, 245, rfl⟩
abbrev main_v71 : Ref sig .tc := ⟨.hbm, 246, rfl⟩
abbrev main_v72 : Ref sig .tc := ⟨.hbm, 247, rfl⟩
abbrev main_v73 : Ref sig .tc := ⟨.hbm, 248, rfl⟩
abbrev main_v74 : Ref sig .tc := ⟨.hbm, 249, rfl⟩
abbrev main_v75 : Ref sig .tc := ⟨.hbm, 250, rfl⟩
abbrev main_v76 : Ref sig .tc := ⟨.hbm, 251, rfl⟩
abbrev main_v77 : Ref sig .tc := ⟨.hbm, 252, rfl⟩
abbrev main_v78 : Ref sig .tc := ⟨.hbm, 253, rfl⟩
abbrev main_v79 : Ref sig .tc := ⟨.hbm, 254, rfl⟩
abbrev main_v80 : Ref sig .tc := ⟨.hbm, 255, rfl⟩
abbrev main_v81 : Ref sig .tc := ⟨.hbm, 256, rfl⟩
abbrev main_v82 : Ref sig .tc := ⟨.hbm, 257, rfl⟩
abbrev main_v83 : Ref sig .tc := ⟨.hbm, 258, rfl⟩

abbrev nD : Nat := 1
abbrev τ : Topo := Topo.v7x

variable {F : FTy → Type} [FloatOps F]

abbrev main_while0_count : Scf.Loop 32 := ⟨0#32, 4#32, 1#32⟩
-- ==== Kernel2.lean ====
abbrev S16384x4096 : Shape := ⟨2, ![16384, 4096]⟩
abbrev S4x2x4096x11008 : Shape := ⟨4, ![4, 2, 4096, 11008]⟩
abbrev S8x4096x11008 : Shape := ⟨3, ![8, 4096, 11008]⟩
abbrev S16384x11008 : Shape := ⟨2, ![16384, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4x2x4096x11008, .f32⟩
  | .hbm, ⟨2, _⟩ => ⟨S4x2x4096x11008, .f32⟩
  | .hbm, ⟨3, _⟩ => ⟨S4x2x4096x11008, .bf16⟩
  | .hbm, ⟨4, _⟩ => ⟨S8x4096x11008, .bf16⟩
  | .hbm, ⟨5, _⟩ => ⟨S4x2x4096x11008, .bf16⟩
  | .hbm, ⟨6, _⟩ => ⟨S8x4096x11008, .bf16⟩
  | .hbm, ⟨7, _⟩ => ⟨S16384x4096, .bf16⟩
  | .hbm, ⟨8, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1024x256, .bf16⟩
  | .local _ .vmem, ⟨7, _⟩ => ⟨S1024x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4x2x4096x11008 : Shape := ⟨4, ![4, 2, 4096, 11008]⟩
abbrev S1x1x4096x11008 : Shape := ⟨4, ![1, 1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x2x4096x11008, .f32⟩
  | .hbm, ⟨2, _⟩ => ⟨S4x2x4096x11008, .f32⟩
  | .hbm, ⟨3, _⟩ => ⟨S1x1x4096x11008, .f32⟩
  | .hbm, ⟨4, _⟩ => ⟨S4096x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S1x1x4096x11008, .f32⟩
  | .hbm, ⟨16, _⟩ => ⟨S4096x11008, .f32⟩
  | .hbm, ⟨17, _⟩ => ⟨S16384x11008, .f32⟩
  | .hbm, ⟨18, _⟩ => ⟨S16384x11008, .f32⟩
  | .hbm, ⟨19, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel3.lean ====
abbrev S16384x11008 : Shape := ⟨2, ![16384, 11008]⟩
abbrev S4x2x11008x4096 : Shape := ⟨4, ![4, 2, 11008, 4096]⟩
abbrev S16384x4096 : Shape := ⟨2, ![16384, 4096]⟩
abbrev S8x9x4096 : Shape := ⟨3, ![8, 9, 4096]⟩
abbrev S8x11008x4096 : Shape := ⟨3, ![8, 11008, 4096]⟩
abbrev S512x11008 : Shape := ⟨2, ![512, 11008]⟩
abbrev S1x11008x512 : Shape := ⟨3, ![1, 11008, 512]⟩
abbrev S512x512 : Shape := ⟨2, ![512, 512]⟩
abbrev S1x9x512 : Shape := ⟨3, ![1, 9, 512]⟩
abbrev S11008x512 : Shape := ⟨2, ![11008, 512]⟩
abbrev S9x512 : Shape := ⟨2, ![9, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x11008, .f32⟩
  | .hbm, ⟨1, _⟩ => ⟨S4x2x11008x4096, .f32⟩
  | .hbm, ⟨2, _⟩ => ⟨S16384x4096, .f32⟩
  | .hbm, ⟨3, _⟩ => ⟨S8x9x4096, .f32⟩
  | .hbm, ⟨4, _⟩ => ⟨S4x2x11008x4096, .bf16⟩
  | .hbm, ⟨5, _⟩ => ⟨S8x11008x4096, .bf16⟩
  | .hbm, ⟨6, _⟩ => ⟨S16384x11008, .bf16⟩
  | .hbm, ⟨7, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x9x512, .f32⟩
  | .local _ .vmem, ⟨7, _⟩ => ⟨S1x9x512, .f32⟩
  | .local _ .vmem, ⟨8, _⟩ => ⟨S512x512, .f32⟩
  | .local _ .vmem, ⟨9, _⟩ => ⟨S512x512, .f32⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x11008 : Shape := ⟨2, ![16384, 11008]⟩
abbrev S4x2x11008x4096 : Shape := ⟨4, ![4, 2, 11008, 4096]⟩
abbrev S16384x4096 : Shape := ⟨2, ![16384, 4096]⟩
abbrev S8x9x4096 : Shape := ⟨3, ![8, 9, 4096]⟩
abbrev S1x1x4096 : Shape := ⟨3, ![1, 1, 4096]⟩
abbrev S4096 : Shape := ⟨1, ![4096]⟩
abbrev S8192x4096 : Shape := ⟨2, ![8192, 4096]⟩
abbrev S4x1x4096 : Shape := ⟨3, ![4, 1, 4096]⟩
abbrev S4x4096 : Shape := ⟨2, ![4, 4096]⟩
abbrev S4x2048x4096 : Shape := ⟨3, ![4, 2048, 4096]⟩
abbrev S_ : Shape := ⟨0, ![]⟩
abbrev S1x1x11008x4096 : Shape := ⟨4, ![1, 1, 11008, 4096]⟩
abbrev S11008x4096 : Shape := ⟨2, ![11008, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S4x2x11008x4096, .f32⟩
  | .hbm, ⟨2, _⟩ => ⟨S16384x4096, .f32⟩
  | .hbm, ⟨3, _⟩ => ⟨S8x9x4096, .f32⟩
  | .hbm, ⟨4, _⟩ => ⟨S1x1x4096, .f32⟩
  | .hbm, ⟨5, _⟩ => ⟨S4096, .f32⟩
  | .hbm, ⟨6, _⟩ => ⟨S8192x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S4x2048x4096, .f32⟩
  | .hbm, ⟨11, _⟩ => ⟨S8192x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S1x1x11008x4096, .f32⟩
  | .hbm, ⟨17, _⟩ => ⟨S11008x4096, .f32⟩
  | .hbm, ⟨18, _⟩ => ⟨S16384x4096, .f32⟩
  | .hbm, ⟨19, _⟩ => ⟨S16384x4096, .f32⟩
  | .hbm, ⟨20, _⟩ => ⟨S16384x4096, .f32⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel4.lean ====
abbrev S16384x4096 : Shape := ⟨2, ![16384, 4096]⟩
abbrev S2x4096x12320 : Shape := ⟨3, ![2, 4096, 12320]⟩
abbrev S1x4096x12320 : Shape := ⟨3, ![1, 4096, 12320]⟩
abbrev S4096x12320 : Shape := ⟨2, ![4096, 12320]⟩
abbrev S4096x12288 : Shape := ⟨2, ![4096, 12288]⟩
abbrev S16384x12288 : Shape := ⟨2, ![16384, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S2x4096x12320, .f32⟩
  | .hbm, ⟨2, _⟩ => ⟨S1x4096x12320, .f32⟩
  | .hbm, ⟨3, _⟩ => ⟨S4096x12320, .f32⟩
  | .hbm, ⟨4, _⟩ => ⟨S16384x4096, .bf16⟩
  | .hbm, ⟨5, _⟩ => ⟨S4096x12288, .f32⟩
  | .hbm, ⟨6, _⟩ => ⟨S4096x12288, .bf16⟩
  | .hbm, ⟨7, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S2x4096x12320 : Shape := ⟨3, ![2, 4096, 12320]⟩
abbrev S1x4096x12320 : Shape := ⟨3, ![1, 4096, 12320]⟩
abbrev S4096x12320 : Shape := ⟨2, ![4096, 12320]⟩
abbrev S16384x12320 : Shape := ⟨2, ![16384, 12320]⟩
abbrev S16384x12288 : Shape := ⟨2, ![16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096x12320, .f32⟩
  | .hbm, ⟨2, _⟩ => ⟨S1x4096x12320, .f32⟩
  | .hbm, ⟨3, _⟩ => ⟨S4096x12320, .f32⟩
  | .hbm, ⟨4, _⟩ => ⟨S16384x12320, .f32⟩
  | .hbm, ⟨5, _⟩ => ⟨S16384x12288, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S2x4096x4096 : Shape := ⟨3, ![2, 4096, 4096]⟩
abbrev S8x9x4096 : Shape := ⟨3, ![8, 9, 4096]⟩
abbrev S1024x4096 : Shape := ⟨2, ![1024, 4096]⟩
abbrev S1x4096x512 : Shape := ⟨3, ![1, 4096, 512]⟩
abbrev S1024x512 : Shape := ⟨2, ![1024, 512]⟩
abbrev S1x9x512 : Shape := ⟨3, ![1, 9, 512]⟩
abbrev S4096x512 : Shape := ⟨2, ![4096, 512]⟩
abbrev S9x512 : Shape := ⟨2, ![9, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S2x4096x4096, .f32⟩
  | .hbm, ⟨2, _⟩ => ⟨S16384x4096, .f32⟩
  | .hbm, ⟨3, _⟩ => ⟨S8x9x4096, .f32⟩
  | .hbm, ⟨4, _⟩ => ⟨S16384x4096, .bf16⟩
  | .hbm, ⟨5, _⟩ => ⟨S2x4096x4096, .bf16⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x9x512, .f32⟩
  | .local _ .vmem, ⟨7, _⟩ => ⟨S1x9x512, .f32⟩
  | .local _ .vmem, ⟨8, _⟩ => ⟨S1024x512, .f32⟩
  | .local _ .vmem, ⟨9, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x4096 : Shape := ⟨2, ![16384, 4096]⟩
abbrev S2x4096x4096 : Shape := ⟨3, ![2, 4096, 4096]⟩
abbrev S8x9x4096 : Shape := ⟨3, ![8, 9, 4096]⟩
abbrev S1x1x4096 : Shape := ⟨3, ![1, 1, 4096]⟩
abbrev S4096 : Shape := ⟨1, ![4096]⟩
abbrev S8192x4096 : Shape := ⟨2, ![8192, 4096]⟩
abbrev S4x1x4096 : Shape := ⟨3, ![4, 1, 4096]⟩
abbrev S4x4096 : Shape := ⟨2, ![4, 4096]⟩
abbrev S4x2048x4096 : Shape := ⟨3, ![4, 2048, 4096]⟩
abbrev S1x4096x4096 : Shape := ⟨3, ![1, 4096, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096x4096, .f32⟩
  | .hbm, ⟨2, _⟩ => ⟨S16384x4096, .f32⟩
  | .hbm, ⟨3, _⟩ => ⟨S8x9x4096, .f32⟩
  | .hbm, ⟨4, _⟩ => ⟨S1x1x4096, .f32⟩
  | .hbm, ⟨5, _⟩ => ⟨S4096, .f32⟩
  | .hbm, ⟨6, _⟩ => ⟨S8192x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S4x2048x4096, .f32⟩
  | .hbm, ⟨11, _⟩ => ⟨S8192x4096, .f32⟩
  | .hbm, ⟨12, _⟩ => ⟨S16384x4096, .f32⟩
  | .hbm, ⟨13, _⟩ => ⟨S1x4096x4096, .f32⟩
  | .hbm, ⟨14, _⟩ => ⟨S4096x4096, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S16384x4096 : Shape := ⟨2, ![16384, 4096]⟩
abbrev S1x4096x20480 : Shape := ⟨3, ![1, 4096, 20480]⟩
abbrev S4096x20480 : Shape := ⟨2, ![4096, 20480]⟩
abbrev S16384x20480 : Shape := ⟨2, ![16384, 20480]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096x20480, .f32⟩
  | .hbm, ⟨2, _⟩ => ⟨S16384x4096, .bf16⟩
  | .hbm, ⟨3, _⟩ => ⟨S4096x20480, .f32⟩
  | .hbm, ⟨4, _⟩ => ⟨S4096x20480, .bf16⟩
  | .hbm, ⟨5, _⟩ => ⟨S16384x20480, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x4096 : Shape := ⟨2, ![16384, 4096]⟩
abbrev S1x4096x20480 : Shape := ⟨3, ![1, 4096, 20480]⟩
abbrev S4096x20480 : Shape := ⟨2, ![4096, 20480]⟩
abbrev S16384x20480 : Shape := ⟨2, ![16384, 20480]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x20480, .f32⟩
  | .hbm, ⟨2, _⟩ => ⟨S4096x20480, .f32⟩
  | .hbm, ⟨3, _⟩ => ⟨S16384x20480, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Loop.lean ====
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384
set_option maxHeartbeats 4000000

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip reads and writes: trip `k` of direction `d` works on chunk `k xor d` -/

theorem off1_eq : ∀ (i : grid0.Coords) (k0_t1 : Fin k0_t1_loop.trips), k0_off1 i k0_t1 = ![128 * ((k0_t1.val + (i 2).val) % 2), 0] := by decide +kernel
instance (i : grid0.Coords) (k0_t1 : Fin k0_t1_loop.trips) : ClosedOff (k0_off1 i k0_t1) := ⟨_, off1_eq i k0_t1⟩
theorem off2_eq : ∀ (i : grid0.Coords) (k0_t1 : Fin k0_t1_loop.trips), k0_off2 i k0_t1 = ![128 * ((k0_t1.val + (i 2).val) % 2), 0] := by decide +kernel
instance (i : grid0.Coords) (k0_t1 : Fin k0_t1_loop.trips) : ClosedOff (k0_off2 i k0_t1) := ⟨_, off2_eq i k0_t1⟩
theorem off3_eq : ∀ (i : grid0.Coords) (k0_t1 : Fin k0_t1_loop.trips), k0_off3 i k0_t1 = ![0, 0, 128 * ((k0_t1.val + (i 2).val) % 2), 0] := by decide +kernel
instance (i : grid0.Coords) (k0_t1 : Fin k0_t1_loop.trips) : ClosedOff (k0_off3 i k0_t1) := ⟨_, off3_eq i k0_t1⟩
theorem off4_eq : ∀ (i : grid0.Coords) (k0_t1 : Fin k0_t1_loop.trips), k0_off4 i k0_t1 = ![128 * ((k0_t1.val + (i 2).val) % 2), 256] := by decide +kernel
instance (i : grid0.Coords) (k0_t1 : Fin k0_t1_loop.trips) : ClosedOff (k0_off4 i k0_t1) := ⟨_, off4_eq i k0_t1⟩
theorem off5_eq : ∀ (i : grid0.Coords) (k0_t1 : Fin k0_t1_loop.trips), k0_off5 i k0_t1 = ![128 * ((k0_t1.val + (i 2).val) % 2), 512] := by decide +kernel
instance (i : grid0.Coords) (k0_t1 : Fin k0_t1_loop.trips) : ClosedOff (k0_off5 i k0_t1) := ⟨_, off5_eq i k0_t1⟩
theorem off6_eq : ∀ (i : grid0.Coords) (k0_t1 : Fin k0_t1_loop.trips), k0_off6 i k0_t1 = ![0, 1, 128 * ((k0_t1.val + (i 2).val) % 2), 0] := by decide +kernel
instance (i : grid0.Coords) (k0_t1 : Fin k0_t1_loop.trips) : ClosedOff (k0_off6 i k0_t1) := ⟨_, off6_eq i k0_t1⟩
theorem off7_eq : ∀ (i : grid0.Coords) (k0_t1 : Fin k0_t1_loop.trips), k0_off7 i k0_t1 = ![128 * ((k0_t1.val + (i 2).val) % 2), 512] := by decide +kernel
instance (i : grid0.Coords) (k0_t1 : Fin k0_t1_loop.trips) : ClosedOff (k0_off7 i k0_t1) := ⟨_, off7_eq i k0_t1⟩
theorem off8_eq : ∀ (i : grid0.Coords) (k0_t1 : Fin k0_t1_loop.trips), k0_off8 i k0_t1 = ![128 * ((k0_t1.val + (i 2).val) % 2), 1024] := by decide +kernel
instance (i : grid0.Coords) (k0_t1 : Fin k0_t1_loop.trips) : ClosedOff (k0_off8 i k0_t1) := ⟨_, off8_eq i k0_t1⟩
theorem off9_eq : ∀ (i : grid0.Coords) (k0_t1 : Fin k0_t1_loop.trips), k0_off9 i k0_t1 = ![0, 2, 128 * ((k0_t1.val + (i 2).val) % 2), 0] := by decide +kernel
instance (i : grid0.Coords) (k0_t1 : Fin k0_t1_loop.trips) : ClosedOff (k0_off9 i k0_t1) := ⟨_, off9_eq i k0_t1⟩
theorem off10_eq : ∀ (i : grid0.Coords) (k0_t1 : Fin k0_t1_loop.trips), k0_off10 i k0_t1 = ![128 * ((k0_t1.val + (i 2).val) % 2), 768] := by decide +kernel
instance (i : grid0.Coords) (k0_t1 : Fin k0_t1_loop.trips) : ClosedOff (k0_off10 i k0_t1) := ⟨_, off10_eq i k0_t1⟩
theorem off11_eq : ∀ (i : grid0.Coords) (k0_t1 : Fin k0_t1_loop.trips), k0_off11 i k0_t1 = ![128 * ((k0_t1.val + (i 2).val) % 2), 1536] := by decide +kernel
instance (i : grid0.Coords) (k0_t1 : Fin k0_t1_loop.trips) : ClosedOff (k0_off11 i k0_t1) := ⟨_, off11_eq i k0_t1⟩
theorem off12_eq : ∀ (i : grid0.Coords) (k0_t1 : Fin k0_t1_loop.trips), k0_off12 i k0_t1 = ![0, 3, 128 * ((k0_t1.val + (i 2).val) % 2), 0] := by decide +kernel
instance (i : grid0.Coords) (k0_t1 : Fin k0_t1_loop.trips) : ClosedOff (k0_off12 i k0_t1) := ⟨_, off12_eq i k0_t1⟩
theorem off13_eq : ∀ (i : grid0.Coords) (k0_t1 : Fin k0_t1_loop.trips), k0_off13 i k0_t1 = ![0, 128 * ((k0_t1.val + (i 2).val) % 2), 0] := by decide +kernel
instance (i : grid0.Coords) (k0_t1 : Fin k0_t1_loop.trips) : ClosedOff (k0_off13 i k0_t1) := ⟨_, off13_eq i k0_t1⟩
theorem off14_eq : ∀ (i : grid0.Coords) (k0_t1 : Fin k0_t1_loop.trips), k0_off14 i k0_t1 = ![0, 128 * ((k0_t1.val + (i 2).val) % 2), 512] := by decide +kernel
instance (i : grid0.Coords) (k0_t1 : Fin k0_t1_loop.trips) : ClosedOff (k0_off14 i k0_t1) := ⟨_, off14_eq i k0_t1⟩
theorem off15_eq : ∀ (i : grid0.Coords) (k0_t1 : Fin k0_t1_loop.trips), k0_off15 i k0_t1 = ![0, 128 * ((k0_t1.val + (i 2).val) % 2), 1024] := by decide +kernel
instance (i : grid0.Coords) (k0_t1 : Fin k0_t1_loop.trips) : ClosedOff (k0_off15 i k0_t1) := ⟨_, off15_eq i k0_t1⟩
theorem off16_eq : ∀ (i : grid0.Coords) (k0_t1 : Fin k0_t1_loop.trips), k0_off16 i k0_t1 = ![0, 128 * ((k0_t1.val + (i 2).val) % 2), 1536] := by decide +kernel
instance (i : grid0.Coords) (k0_t1 : Fin k0_t1_loop.trips) : ClosedOff (k0_off16 i k0_t1) := ⟨_, off16_eq i k0_t1⟩

/-! ## One trip -/

section Trip

variable (c : Dev nD)

/-- What one trip touches: the five operand blocks it reads, the output block and the three state scratches it writes. -/
abbrev Trip (arg4 : Memref sig .tc .vmem S256x1024 .f32) (arg5 : Memref sig .tc .vmem S256x1024 .f32) (arg6 : Memref sig .tc .vmem S256x2048 .f32) (arg7 : Memref sig .tc .vmem S1x4x256x2 .f32) (arg8 : Memref sig .tc .vmem S1x4x1x2 .f32) (arg9 : Memref sig .tc .vmem S1x256x2048 .f32) (arg13 : Memref sig .tc .vmem S4x256x512 .f32) (arg14 : Memref sig .tc .vmem S4x1x256 .f32) (arg15 : Memref sig .tc .vmem S4x1x1 .f32) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f13 : Buf (Elt F) (arg13.view.loc (c : Thread nD τ))) (f14 : Buf (Elt F) (arg14.view.loc (c : Thread nD τ))) (f15 : Buf (Elt F) (arg15.view.loc (c : Thread nD τ))) : sProp 𝕄 :=
  iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- ONE TRIP at a symbolic `k`: the pieces it writes into the output block and into the three scratches are functions of the
    contents it finds; the operands are handed back. -/
@[irreducible] def trip (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) :
    Σ' (L9 : Buf (Elt F) (arg13.view.loc (c : Thread nD τ)) → Buf (Elt F) (arg14.view.loc (c : Thread nD τ)) → Buf (Elt F) (arg15.view.loc (c : Thread nD τ)) → List (View.Piece (Elt F) S1x256x2048 .f32)) (L13 : Buf (Elt F) (arg13.view.loc (c : Thread nD τ)) → Buf (Elt F) (arg14.view.loc (c : Thread nD τ)) → Buf (Elt F) (arg15.view.loc (c : Thread nD τ)) → List (View.Piece (Elt F) S4x256x512 .f32)) (L14 : Buf (Elt F) (arg13.view.loc (c : Thread nD τ)) → Buf (Elt F) (arg14.view.loc (c : Thread nD τ)) → Buf (Elt F) (arg15.view.loc (c : Thread nD τ)) → List (View.Piece (Elt F) S4x1x256 .f32)), { L15 : Buf (Elt F) (arg13.view.loc (c : Thread nD τ)) → Buf (Elt F) (arg14.view.loc (c : Thread nD τ)) → Buf (Elt F) (arg15.view.loc (c : Thread nD τ)) → List (View.Piece (Elt F) S4x1x1 .f32) //
      ∀ (f9 : Buf (Elt F) (arg9.view.loc (c : Thread nD τ))) (f13 : Buf (Elt F) (arg13.view.loc (c : Thread nD τ))) (f14 : Buf (Elt F) (arg14.view.loc (c : Thread nD τ))) (f15 : Buf (Elt F) (arg15.view.loc (c : Thread nD τ))), Trip (F := F) c arg4 arg5 arg6 arg7 arg8 arg9 arg13 arg14 arg15 X4 X5 X6 X7 X8 f9 f13 f14 f15
      ⊢ wp frame (wpE (defs₀ (F := F)) Variants.none (c : Thread nD τ) none) Set.univ (k0_t1_body (F := F) i arg4 harg4 arg5 harg5 arg6 harg6 arg7 harg7 arg8 harg8 arg9 harg9 arg10 harg10 arg11 harg11 arg12 harg12 arg13 harg13 arg14 harg14 arg15 harg15 arg2 k PUnit.unit)
          (fun _ => Trip (F := F) c arg4 arg5 arg6 arg7 arg8 arg9 arg13 arg14 arg15 X4 X5 X6 X7 X8 (arg9.view.writes (Elt F) f9 (L9 f13 f14 f15)) (arg13.view.writes (Elt F) f13 (L13 f13 f14 f15)) (arg14.view.writes (Elt F) f14 (L14 f13 f14 f15)) (arg15.view.writes (Elt F) f15 (L15 f13 f14 f15))) } := by
  have hk : k.val < 2 := Nat.lt_of_lt_of_le k.isLt (by decide)
  refine ⟨?_, ?_, ?_, ?_, fun f9 f13 f14 f15 => ?run⟩
  case run =>
    unfold k0_t1_body
    iintro ⟨H4, H5, H6, H7, H8, H9, H13, H14, H15⟩
    sl_exec
    sl_step
    sl_close

end Trip

/-! ## The two trips -/

/-- The contents trip `k` leaves in the scratches, from the contents it finds. -/
def tripC (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) (p : Buf (Elt F) (arg13.view.loc (c : Thread nD τ)) × Buf (Elt F) (arg14.view.loc (c : Thread nD τ)) × Buf (Elt F) (arg15.view.loc (c : Thread nD τ))) : Buf (Elt F) (arg13.view.loc (c : Thread nD τ)) × Buf (Elt F) (arg14.view.loc (c : Thread nD τ)) × Buf (Elt F) (arg15.view.loc (c : Thread nD τ)) :=
  (arg13.view.writes (Elt F) p.1 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 p.1 p.2.1 p.2.2),
   arg14.view.writes (Elt F) p.2.1 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 p.1 p.2.1 p.2.2),
   arg15.view.writes (Elt F) p.2.2 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 p.1 p.2.1 p.2.2))

/-- The scratches' contents before trip `k`, from those at the loop's entry. -/
def st (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) : ℕ → Buf (Elt F) (arg13.view.loc (c : Thread nD τ)) × Buf (Elt F) (arg14.view.loc (c : Thread nD τ)) × Buf (Elt F) (arg15.view.loc (c : Thread nD τ))
  | 0 => (G13, G14, G15)
  | k + 1 => if h : k < k0_t1_loop.trips then tripC c i arg4 harg4 arg5 harg5 arg6 harg6 arg7 harg7 arg8 harg8 arg9 harg9 arg10 harg10 arg11 harg11 arg12 harg12 arg13 harg13 arg14 harg14 arg15 harg15 arg2 X4 X5 X6 X7 X8 ⟨k, h⟩ (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k) else st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k

theorem st_succ (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : Fin k0_t1_loop.trips) :
    st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 (k.val + 1) = tripC c i arg4 harg4 arg5 harg5 arg6 harg6 arg7 harg7 arg8 harg8 arg9 harg9 arg10 harg10 arg11 harg11 arg12 harg12 arg13 harg13 arg14 harg14 arg15 harg15 arg2 X4 X5 X6 X7 X8 k (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k.val) := by
  rw [st.eq_2]; exact dif_pos k.isLt

/-- The pieces trip `k` writes into the output block. -/
def tripP (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) (p : Buf (Elt F) (arg13.view.loc (c : Thread nD τ)) × Buf (Elt F) (arg14.view.loc (c : Thread nD τ)) × Buf (Elt F) (arg15.view.loc (c : Thread nD τ))) : List (View.Piece (Elt F) S1x256x2048 .f32) :=
  (trip c i arg4 harg4 arg5 harg5 arg6 harg6 arg7 harg7 arg8 harg8 arg9 harg9 arg10 harg10 arg11 harg11 arg12 harg12 arg13 harg13 arg14 harg14 arg15 harg15 arg2 X4 X5 X6 X7 X8 k).1 p.1 p.2.1 p.2.2

/-- The pieces written into the output block before trip `k`, the last first. -/
def pb (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) : ℕ → List (View.Piece (Elt F) S1x256x2048 .f32)
  | 0 => []
  | k + 1 => if h : k < k0_t1_loop.trips then tripP c i arg4 harg4 arg5 harg5 arg6 harg6 arg7 harg7 arg8 harg8 arg9 harg9 arg10 harg10 arg11 harg11 arg12 harg12 arg13 harg13 arg14 harg14 arg15 harg15 arg2 X4 X5 X6 X7 X8 ⟨k, h⟩ (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k) ++ pb c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k else pb c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k

theorem pb_succ (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : Fin k0_t1_loop.trips) :
    pb c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 (k.val + 1) = tripP c i arg4 harg4 arg5 harg5 arg6 harg6 arg7 harg7 arg8 harg8 arg9 harg9 arg10 harg10 arg11 harg11 arg12 harg12 arg13 harg13 arg14 harg14 arg15 harg15 arg2 X4 X5 X6 X7 X8 k (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k.val) ++ pb c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k.val := by
  rw [pb.eq_2]; exact dif_pos k.isLt

/-- What argument 13's buffer holds before trip `k`. -/
def st13 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) : Buf (Elt F) (arg13.view.loc (c : Thread nD τ)) :=
  match k with
  | 0 => G13
  | k + 1 => (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 (k + 1)).1

theorem st13_eq (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) :
    st13 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k = (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k).1 := by
  cases k <;> rfl

/-- What argument 14's buffer holds before trip `k`. -/
def st14 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) : Buf (Elt F) (arg14.view.loc (c : Thread nD τ)) :=
  match k with
  | 0 => G14
  | k + 1 => (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 (k + 1)).2.1

theorem st14_eq (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) :
    st14 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k = (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k).2.1 := by
  cases k <;> rfl

/-- What argument 15's buffer holds before trip `k`. -/
def st15 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) : Buf (Elt F) (arg15.view.loc (c : Thread nD τ)) :=
  match k with
  | 0 => G15
  | k + 1 => (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 (k + 1)).2.2

theorem st15_eq (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G13 : Buf (Elt F) (arg13.view.loc (c : Thread nD τ))) (G14 : Buf (Elt F) (arg14.view.loc (c : Thread nD τ))) (G15 : Buf (Elt F) (arg15.view.loc (c : Thread nD τ))) (k : ℕ) :
    st15 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k = (st c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k).2.2 := by
  cases k <;> rfl

set_option warn.classDefReducibility false in
/-- The loop's invariant: the operands as found, the output block and the scratches at what the trips before have left. -/
@[sl_loop] def loopInv (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (G9 : Buf (Elt F) (arg9.view.loc (c : Thread nD τ))) (G13 : Buf (Elt F) (arg13.view.loc (c : Thread nD τ))) (G14 : Buf (Elt F) (arg14.view.loc (c : Thread nD τ))) (G15 : Buf (Elt F) (arg15.view.loc (c : Thread nD τ))) :
    LoopInvTy_k0_t1 (F := F) Unit ℕ (UR sig nD τ) ℕ Variants.none c none Set.univ i arg4 harg4 arg5 harg5 arg6 harg6 arg7 harg7 arg8 harg8 arg9 harg9 arg10 harg10 arg11 harg11 arg12 harg12 arg13 harg13 arg14 harg14 arg15 harg15 arg2 where
  inv k _ := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜f = arg9.view.writes (Elt F) G9 (pb c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k)⌝) ∗ (∃ f, (arg13.view.loc (c : Thread nD τ) ↦[arg13.view.set]{fullShare} f) ∗ ⌜f = st13 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k⌝) ∗ (∃ f, (arg14.view.loc (c : Thread nD τ) ↦[arg14.view.set]{fullShare} f) ∗ ⌜f = st14 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k⌝) ∗ (∃ f, (arg15.view.loc (c : Thread nD τ) ↦[arg15.view.set]{fullShare} f) ∗ ⌜f = st15 c i arg4 harg4 arg5 harg5 arg6 harg6 arg7 harg7 arg8 harg8 arg9 harg9 arg10 harg10 arg11 harg11 arg12 harg12 arg13 harg13 arg14 harg14 arg15 harg15 arg2 X4 X5 X6 X7 X8 G13 G14 G15 k⌝))
  step k _ := by
    simp only [st13_eq, st14_eq, st15_eq]
    iintro ⟨H4, H5, H6, H7, H8, ⟨%f9, H9, %e9⟩, ⟨%f13, H13, %e13⟩, ⟨%f14, H14, %e14⟩, ⟨%f15, H15, %e15⟩⟩
    iapply (wp_wand_r Idealize.ShloMosaic.frame (wpE (defs₀ (F := F)) Variants.none (c : Thread nD τ) none) Set.univ)
    isplitl [H4 H5 H6 H7 H8 H9 H13 H14 H15]
    · iapply (trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.2 f9 f13 f14 f15
      isplitl [H4]; · iexact H4
      isplitl [H5]; · iexact H5
      isplitl [H6]; · iexact H6
      isplitl [H7]; · iexact H7
      isplitl [H8]; · iexact H8
      isplitl [H9]; · iexact H9
      isplitl [H13]; · iexact H13
      isplitl [H14]; · iexact H14
      iexact H15
    · iintro %_ ⟨H4, H5, H6, H7, H8, H9, H13, H14, H15⟩
      rw [st_succ, pb_succ, View.writes_append, tripC, tripP, ← e9, ← e13, ← e14, ← e15]
      isplitl [H4]; · iexact H4
      isplitl [H5]; · iexact H5
      isplitl [H6]; · iexact H6
      isplitl [H7]; · iexact H7
      isplitl [H8]; · iexact H8
      isplitl [H9]; · iexists _; isplitl [H9]; · iexact H9
                      ipureintro; rfl
      isplitl [H13]; · iexists _; isplitl [H13]; · iexact H13
                       ipureintro; rfl
      isplitl [H14]; · iexists _; isplitl [H14]; · iexact H14
                       ipureintro; rfl
      iexists _; isplitl [H15]; · iexact H15
      ipureintro; rfl

/-! ## The body at a grid point -/

/-- THE BODY at a point: from the operands' blocks and anything in the result blocks and scratches, to what the run finds. -/
@[irreducible] def bodyRun (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) :
    Σ' (L9 : List (View.Piece (Elt F) S1x256x2048 .f32)) (L10 : List (View.Piece (Elt F) S1x1x4x256x512 .f32)) (L11 : List (View.Piece (Elt F) S1x1x4x1x256 .f32)), { L12 : List (View.Piece (Elt F) S1x1x4x1x1 .f32) //
      ∀ (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))),
        (iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) Variants.none (c : Thread nD τ) none) Set.univ (cc0_mlstm_scan (F := F) i arg4 harg4 arg5 harg5 arg6 harg6 arg7 harg7 arg8 harg8 arg9 harg9 arg10 harg10 arg11 harg11 arg12 harg12 arg13 harg13 arg14 harg14 arg15 harg15)
          (fun _ => iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12))
            ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) } := by
  refine ⟨?_, ?_, ?_, ?_, fun f9 f10 f11 f12 f13 f14 f15 => ?run⟩
  case run =>
    iintro ⟨H4, H5, H6, H7, H8, H9, H10, H11, H12, H13, H14, H15⟩
    sl_unfold [cc0_mlstm_scan]
    sl_exec
    sl_step
    sl_close

end Cert.Scan

end
-- ==== Proof.Frame.lean ====
module

public import proofs.«01_k».proof.Proof.Loop
public import Idealize.ShloMosaic.Lib.Pipeline.FrameBody
public import Idealize.ShloMosaic.Lib.Ring
public import Idealize.ShloMosaic.Lib.WholeRead

@[expose] public section

set_option maxRecDepth 16384
set_option maxHeartbeats 4000000

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The two trips' pieces cover the output block -/

/-- A trip writes one piece per head, 512 columns each, at the rows of its chunk. -/
theorem tripP_shape (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) (p : Buf (Elt F) (arg13.view.loc (c : Thread nD τ)) × Buf (Elt F) (arg14.view.loc (c : Thread nD τ)) × Buf (Elt F) (arg15.view.loc (c : Thread nD τ))) :
    ∃ w3 w2 w1 w0, tripP c i arg4 harg4 arg5 harg5 arg6 harg6 arg7 harg7 arg8 harg8 arg9 harg9 arg10 harg10 arg11 harg11 arg12 harg12 arg13 harg13 arg14 harg14 arg15 harg15 arg2 X4 X5 X6 X7 X8 k p =
      [⟨Rect.unit (k0_off16 i k) S1x128x512.size (k0_off16_inb i k), w3⟩, ⟨Rect.unit (k0_off15 i k) S1x128x512.size (k0_off15_inb i k), w2⟩,
       ⟨Rect.unit (k0_off14 i k) S1x128x512.size (k0_off14_inb i k), w1⟩, ⟨Rect.unit (k0_off13 i k) S1x128x512.size (k0_off13_inb i k), w0⟩] := by
  unfold tripP trip
  exact ⟨_, _, _, _, rfl⟩

/-- Every index of the output block whose row lies in trip `k`'s chunk is in a piece of that trip. -/
theorem tripP_cover (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) (p : Buf (Elt F) (arg13.view.loc (c : Thread nD τ)) × Buf (Elt F) (arg14.view.loc (c : Thread nD τ)) × Buf (Elt F) (arg15.view.loc (c : Thread nD τ))) (y : S1x256x2048.Idx)
    (h0 : 128 * ((k.val + (i 2).val) % 2) ≤ (y 1).val) (h1 : (y 1).val < 128 * ((k.val + (i 2).val) % 2) + 128) :
    ∃ pc ∈ tripP c i arg4 harg4 arg5 harg5 arg6 harg6 arg7 harg7 arg8 harg8 arg9 harg9 arg10 harg10 arg11 harg11 arg12 harg12 arg13 harg13 arg14 harg14 arg15 harg15 arg2 X4 X5 X6 X7 X8 k p, y ∈ pc.1.set := by
  obtain ⟨w3, w2, w1, w0, e⟩ := tripP_shape c i arg4 harg4 arg5 harg5 arg6 harg6 arg7 harg7 arg8 harg8 arg9 harg9 arg10 harg10 arg11 harg11 arg12 harg12 arg13 harg13 arg14 harg14 arg15 harg15 arg2 X4 X5 X6 X7 X8 k p
  rw [e]
  have hy0 : (y 0).val < 1 := (y 0).isLt
  have hy2 : (y 2).val < 2048 := (y 2).isLt
  rcases (by omega : (y 2).val < 512 ∨ (512 ≤ (y 2).val ∧ (y 2).val < 1024) ∨ (1024 ≤ (y 2).val ∧ (y 2).val < 1536) ∨ 1536 ≤ (y 2).val) with h | h | h | h
  · refine ⟨_, List.mem_cons_of_mem _ (List.mem_cons_of_mem _ (List.mem_cons_of_mem _ List.mem_cons_self)), ?_⟩
    rw [Rect.mem_set_unit, off13_eq]
    exact Fin.forall_fin_succ.mpr ⟨⟨Nat.zero_le _, hy0⟩, Fin.forall_fin_two.mpr ⟨⟨h0, h1⟩, Nat.zero_le _, h⟩⟩
  · refine ⟨_, List.mem_cons_of_mem _ (List.mem_cons_of_mem _ List.mem_cons_self), ?_⟩
    rw [Rect.mem_set_unit, off14_eq]
    exact Fin.forall_fin_succ.mpr ⟨⟨Nat.zero_le _, hy0⟩, Fin.forall_fin_two.mpr ⟨⟨h0, h1⟩, h.1, h.2⟩⟩
  · refine ⟨_, List.mem_cons_of_mem _ List.mem_cons_self, ?_⟩
    rw [Rect.mem_set_unit, off15_eq]
    exact Fin.forall_fin_succ.mpr ⟨⟨Nat.zero_le _, hy0⟩, Fin.forall_fin_two.mpr ⟨⟨h0, h1⟩, h.1, h.2⟩⟩
  · refine ⟨_, List.mem_cons_self, ?_⟩
    rw [Rect.mem_set_unit, off16_eq]
    exact Fin.forall_fin_succ.mpr ⟨⟨Nat.zero_le _, hy0⟩, Fin.forall_fin_two.mpr ⟨⟨h0, h1⟩, h, hy2⟩⟩

/-- The scratches' contents at the loop's entry: filled with zeros. -/
abbrev z13 (arg13 : Memref sig .tc .vmem S4x256x512 .f32) : arg13.view.ty.Contents (Elt F) :=
  arg13.view.writes (Elt F) arg13.view.junk [⟨Rect.unit ![0, 0, 0] S4x256x512.size inb_S4x256x512_S4x256x512_0_0_0, k0_pay1⟩]
abbrev z14 (arg14 : Memref sig .tc .vmem S4x1x256 .f32) : arg14.view.ty.Contents (Elt F) :=
  arg14.view.writes (Elt F) arg14.view.junk [⟨Rect.unit ![0, 0, 0] S4x1x256.size inb_S4x1x256_S4x1x256_0_0_0, k0_pay2⟩]
abbrev z15 (arg15 : Memref sig .tc .vmem S4x1x1 .f32) : arg15.view.ty.Contents (Elt F) :=
  arg15.view.writes (Elt F) arg15.view.junk [⟨Rect.unit ![0, 0, 0] S4x1x1.size inb_S4x1x1_S4x1x1_0_0_0, k0_pay3⟩]

/-- What the body leaves in the output block: the pieces of the two trips. -/
theorem bodyRun_out (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) :
    (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).1 = pb c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (z13 arg13) (z14 arg14) (z15 arg15) 2 := by
  unfold bodyRun; rfl

/-- They cover the block. -/
theorem cover9 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (y : S1x256x2048.Idx) :
    ∃ pc ∈ (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).1, y ∈ pc.1.set := by
  rw [bodyRun_out]
  have hy : (y 1).val < 256 := (y 1).isLt
  rw [pb_succ c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 _ _ _ (⟨1, by decide⟩ : Fin k0_t1_loop.trips),
    pb_succ c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 _ _ _ (⟨0, by decide⟩ : Fin k0_t1_loop.trips)]
  have hi : (i 2).val < 2 := (i 2).isLt
  by_cases h : 128 * ((1 + (i 2).val) % 2) ≤ (y 1).val ∧ (y 1).val < 128 * ((1 + (i 2).val) % 2) + 128
  · obtain ⟨pc, hp, hm⟩ := tripP_cover c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (⟨1, by decide⟩ : Fin k0_t1_loop.trips) _ y h.1 h.2
    exact ⟨pc, List.mem_append_left _ hp, hm⟩
  · obtain ⟨pc, hp, hm⟩ := tripP_cover c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (⟨0, by decide⟩ : Fin k0_t1_loop.trips) _ y
      (by simp only; omega) (by simp only; omega)
    exact ⟨pc, List.mem_append_right _ (List.mem_append_left _ hp), hm⟩

theorem cover10 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (y : S1x1x4x256x512.Idx) :
    ∃ pc ∈ (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.1, y ∈ pc.1.set :=
  View.cover_of_tiledL _ S1x1x4x256x512.size (by sl_kernel_rfl) y

theorem cover11 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (y : S1x1x4x1x256.Idx) :
    ∃ pc ∈ (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.1, y ∈ pc.1.set :=
  View.cover_of_tiledL _ S1x1x4x1x256.size (by sl_kernel_rfl) y

theorem cover12 (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (y : S1x1x4x1x1.Idx) :
    ∃ pc ∈ (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.2.1, y ∈ pc.1.set :=
  View.cover_of_tiledL _ S1x1x4x1x1.size (by sl_kernel_rfl) y

/-- The body's run over whole blocks: from the operands' blocks at `x4 … x8` to every output's block at what the pieces leave. -/
theorem body_owns (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (hc : k0_cond2 i = 1#1) (hc1 : Scalar.cmpi .ne (Scalar.extui (Scalar.cmpi .eq (BitVec.ofNat 32 (i 3).val) 0#32) : BitVec 32) 0#32 = 1#1) (x4 : Vec F S256x1024 .f32) (x5 : Vec F S256x1024 .f32) (x6 : Vec F S256x2048 .f32) (x7 : Vec F S1x4x256x2 .f32) (x8 : Vec F S1x4x1x2 .f32) :
    (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) : sProp 𝕄)
    ⊢ wp frame (wpE (defs₀ (F := F)) Variants.none (c : Thread nD τ) none) Set.univ (cc0_mlstm_scan i arg4 harg4 arg5 harg5 arg6 harg6 arg7 harg7 arg8 harg8 arg9 harg9 arg10 harg10 arg11 harg11 arg12 harg12 arg13 harg13 arg14 harg14 arg15 harg15)
      (fun _ => iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (arg9.view.read (Elt F) (arg9.view.writes (Elt F) arg9.view.junk (bodyRun c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8)).1)) ∗ owns (c : Thread nD τ) arg10 fullShare (arg10.view.read (Elt F) (arg10.view.writes (Elt F) arg10.view.junk (bodyRun c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8)).2.1)) ∗ owns (c : Thread nD τ) arg11 fullShare (arg11.view.read (Elt F) (arg11.view.writes (Elt F) arg11.view.junk (bodyRun c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8)).2.2.1)) ∗ owns (c : Thread nD τ) arg12 fullShare (arg12.view.read (Elt F) (arg12.view.writes (Elt F) arg12.view.junk (bodyRun c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8)).2.2.2.1)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  unfold owns
  iintro ⟨⟨%f4, %e4, H4⟩, ⟨%f5, %e5, H5⟩, ⟨%f6, %e6, H6⟩, ⟨%f7, %e7, H7⟩, ⟨%f8, %e8, H8⟩, ⟨%d9, %f9, %e9, H9⟩, ⟨%d10, %f10, %e10, H10⟩, ⟨%d11, %f11, %e11, H11⟩, ⟨%d12, %f12, %e12, H12⟩, ⟨%f13, H13⟩, ⟨%f14, H14⟩, ⟨%f15, H15⟩⟩
  have g4 := harg4.eq_unread e4
  subst g4
  have g5 := harg5.eq_unread e5
  subst g5
  have g6 := harg6.eq_unread e6
  subst g6
  have g7 := harg7.eq_unread e7
  subst g7
  have g8 := harg8.eq_unread e8
  subst g8
  iapply (wp_wand_r Idealize.ShloMosaic.frame (wpE (defs₀ (F := F)) Variants.none (c : Thread nD τ) none) Set.univ)
  isplitl [H4 H5 H6 H7 H8 H9 H10 H11 H12 H13 H14 H15]
  · iapply ((bodyRun c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8)).2.2.2.2 f9 f10 f11 f12 f13 f14 f15)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H4, H5, H6, H7, H8, H9, H10, H11, H12, ⟨%g13, H13⟩, ⟨%g14, H14⟩, ⟨%g15, H15⟩⟩
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact View.read_writes_of_cover _ _ _ _ _ (cover9 c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8))
    isplitl [H10]
    · iexists _; isplitr; swap; · iexact H10
      ipureintro; exact View.read_writes_of_cover _ _ _ _ _ (cover10 c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8))
    isplitl [H11]
    · iexists _; isplitr; swap; · iexact H11
      ipureintro; exact View.read_writes_of_cover _ _ _ _ _ (cover11 c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8))
    isplitl [H12]
    · iexists _; isplitr; swap; · iexact H12
      ipureintro; exact View.read_writes_of_cover _ _ _ _ _ (cover12 c i arg4 harg4 arg5 harg5 arg6 harg6 arg7 harg7 arg8 harg8 arg9 harg9 arg10 harg10 arg11 harg11 arg12 harg12 arg13 harg13 arg14 harg14 arg15 harg15 hc hc1 (harg4.unread x4) (harg5.unread x5) (harg6.unread x6) (harg7.unread x7) (harg8.unread x8))
    isplitl [H13]; · iexists g13; iexact H13
    isplitl [H14]; · iexists g14; iexact H14
    iexists g15; iexact H15

/-! ## The proof data -/

/-- The condition under which a point stores the final state holds at every point. -/
theorem cond2_all : ∀ t : Fin grid0.N, k0_cond2 (grid0.coords t) = 1#1 := by decide +kernel
/-- So does the condition under which it clears the state. -/
theorem cond1_all : ∀ t : Fin grid0.N, Scalar.cmpi .ne (Scalar.extui (Scalar.cmpi .eq (BitVec.ofNat 32 ((grid0.coords t) 3).val) 0#32) : BitVec 32) 0#32 = 1#1 := by decide +kernel

variable (m : (ℓ : Loc nD τ sig) → Buf (Elt F) ℓ) (ρ : Dev nD → PrngReg)

/-- The body's run at point `t`, on the blocks the pipeline fetched there. -/
abbrev runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (cond2_all t) (cond1_all t) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t))

/-- What point `t` leaves in output window 5's block. -/
def out5 (c : Dev nD) (t : Fin cfg0.N) : Vec F S1x256x2048 .f32 :=
  (st0_5 t).view.read (Elt F) ((st0_5 t).view.writes (Elt F) (st0_5 t).view.junk (runAt m c t).1)

/-- What point `t` leaves in output window 6's block. -/
def out6 (c : Dev nD) (t : Fin cfg0.N) : Vec F S1x1x4x256x512 .f32 :=
  (st0_6 t).view.read (Elt F) ((st0_6 t).view.writes (Elt F) (st0_6 t).view.junk (runAt m c t).2.1)

/-- What point `t` leaves in output window 7's block. -/
def out7 (c : Dev nD) (t : Fin cfg0.N) : Vec F S1x1x4x1x256 .f32 :=
  (st0_7 t).view.read (Elt F) ((st0_7 t).view.writes (Elt F) (st0_7 t).view.junk (runAt m c t).2.2.1)

/-- What point `t` leaves in output window 8's block. -/
def out8 (c : Dev nD) (t : Fin cfg0.N) : Vec F S1x1x4x1x1 .f32 :=
  (st0_8 t).view.read (Elt F) ((st0_8 t).view.writes (Elt F) (st0_8 t).view.junk (runAt m c t).2.2.2.1)

/-- The proof data on core `c`: the arrays as the region finds them, every operand's block left in place, every output's block at what the
    run leaves; between points the scratches at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem before0_0 (c : Dev nD) (t : Fin cfg0.N) (d) : (dats m 0 c).before 0 t d = iblk m c 0 t := before0_0_of m _ (A_eq m c 0) (after0_0 m c) t d
theorem before0_1 (c : Dev nD) (t : Fin cfg0.N) (d) : (dats m 0 c).before 1 t d = iblk m c 1 t := before0_1_of m _ (A_eq m c 1) (after0_1 m c) t d
theorem before0_2 (c : Dev nD) (t : Fin cfg0.N) (d) : (dats m 0 c).before 2 t d = iblk m c 2 t := before0_2_of m _ (A_eq m c 2) (after0_2 m c) t d
theorem before0_3 (c : Dev nD) (t : Fin cfg0.N) (d) : (dats m 0 c).before 3 t d = iblk m c 3 t := before0_3_of m _ (A_eq m c 3) (after0_3 m c) t d
theorem before0_4 (c : Dev nD) (t : Fin cfg0.N) (d) : (dats m 0 c).before 4 t d = iblk m c 4 t := before0_4_of m _ (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- Scratch 0, held whole, is the body's memref of it. -/
theorem scr0 (c : Dev nD) (f : Buf (Elt F) ((c : Thread nD τ).loc cc0_scratch0)) :
    (((c : Thread nD τ).loc cc0_scratch0 ↦{fullShare} f : sProp 𝕄) ⊢ ((Memref.whole cc0_scratch0).view.loc (c : Thread nD τ) ↦[(Memref.whole cc0_scratch0).view.set]{fullShare} f))
    ∧ ((((Memref.whole cc0_scratch0).view.loc (c : Thread nD τ) ↦[(Memref.whole cc0_scratch0).view.set]{fullShare} f) : sProp 𝕄) ⊢ ((c : Thread nD τ).loc cc0_scratch0 ↦{fullShare} f)) := by
  simp only [View.set_whole]; exact ⟨.rfl, .rfl⟩

/-- Scratch 1, held whole, is the body's memref of it. -/
theorem scr1 (c : Dev nD) (f : Buf (Elt F) ((c : Thread nD τ).loc cc0_scratch1)) :
    (((c : Thread nD τ).loc cc0_scratch1 ↦{fullShare} f : sProp 𝕄) ⊢ ((Memref.whole cc0_scratch1).view.loc (c : Thread nD τ) ↦[(Memref.whole cc0_scratch1).view.set]{fullShare} f))
    ∧ ((((Memref.whole cc0_scratch1).view.loc (c : Thread nD τ) ↦[(Memref.whole cc0_scratch1).view.set]{fullShare} f) : sProp 𝕄) ⊢ ((c : Thread nD τ).loc cc0_scratch1 ↦{fullShare} f)) := by
  simp only [View.set_whole]; exact ⟨.rfl, .rfl⟩

/-- Scratch 2, held whole, is the body's memref of it. -/
theorem scr2 (c : Dev nD) (f : Buf (Elt F) ((c : Thread nD τ).loc cc0_scratch2)) :
    (((c : Thread nD τ).loc cc0_scratch2 ↦{fullShare} f : sProp 𝕄) ⊢ ((Memref.whole cc0_scratch2).view.loc (c : Thread nD τ) ↦[(Memref.whole cc0_scratch2).view.set]{fullShare} f))
    ∧ ((((Memref.whole cc0_scratch2).view.loc (c : Thread nD τ) ↦[(Memref.whole cc0_scratch2).view.set]{fullShare} f) : sProp 𝕄) ⊢ ((c : Thread nD τ).loc cc0_scratch2 ↦{fullShare} f)) := by
  simp only [View.set_whole]; exact ⟨.rfl, .rfl⟩

/-- The body at a point, from its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    after0_0, after0_1, after0_2, after0_3, after0_4, after0_5, after0_6, after0_7, after0_8]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨⟨%f13, HS0⟩, ⟨%f14, HS1⟩, ⟨%f15, HS2⟩⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitl [H0 H1 H2 H3 H4 H5 H6 H7 H8 HS0 HS1 HS2]
  · iapply (body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (cond2_all t) (cond1_all t) (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexists f13; iapply (scr0 c f13).1; iexact HS0
    isplitl [HS1]; · iexists f14; iapply (scr1 c f14).1; iexact HS1
    iexists f15; iapply (scr2 c f15).1; iexact HS2
  · iintro %_ ⟨H0, H1, H2, H3, H4, H5, H6, H7, H8, ⟨%g13, HS0⟩, ⟨%g14, HS1⟩, ⟨%g15, HS2⟩⟩
    isplitl [HS0 HS1 HS2 Hg]
    · isplitl [HS0 HS1 HS2]
      · isplitl [HS0]; · iexists g13; iapply (scr0 c g13).2; iexact HS0
        isplitl [HS1]; · iexists g14; iapply (scr1 c g14).2; iexact HS1
        iexists g15; iapply (scr2 c g15).2; iexact HS2
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem idle6 (t : Fin cfg0.N) : idle0 6 (grid0.coords t) = false := by
  show (!(k0_cond2 (grid0.coords t) == 1#1)) = false
  rw [cond2_all t]; rfl
theorem idle7 (t : Fin cfg0.N) : idle0 7 (grid0.coords t) = false := by
  show (!(k0_cond2 (grid0.coords t) == 1#1)) = false
  rw [cond2_all t]; rfl
theorem idle8 (t : Fin cfg0.N) : idle0 8 (grid0.coords t) = false := by
  show (!(k0_cond2 (grid0.coords t) == 1#1)) = false
  rw [cond2_all t]; rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  first | (rw [idle6 t, idle7 t, idle8 t]; exact .rfl) | (simp only [idle6 t, idle7 t, idle8 t]; exact .rfl) | (dsimp only [cfg0]; rw [idle6 t, idle7 t, idle8 t]; exact .rfl) | (have h := cond2_all t; dsimp only [cfg0]; simp only [idle0, h]; exact .rfl)

/-! ## The run and the frame -/

set_option backward.isDefEq.respectTransparency.types false in
/-- The kernel runs to its end: every array as its window's blocks leave it, every other buffer as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The kernel runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.Scan

end
-- ==== Proof.Math.lean ====
/- The scan over the reals, in closed form, and one chunk of it: a running maximum as the scale, a decayed sum as the memory. -/
module

public import Idealize.ShloMosaic.Lib.Pipeline.ValueKit

@[expose] public section

noncomputable section

namespace Cert.Seq

open Finset

variable (f g : ℕ → ℝ)

/-- The sum of the first `T` log forget gates. -/
def B (T : ℕ) : ℝ := ∑ s ∈ range T, f s

/-- The running maximum that scales the state after `T` steps: `f` decays it, `g` is the input gate. -/
def M : ℕ → ℝ
  | 0 => 0
  | T + 1 => max (f T + M T) (g T)

/-- The weight that step `s` has in the state after `T` steps. -/
def wt (T s : ℕ) : ℝ := Real.exp (B f T - B f (s + 1) + g s - M f g T)

/-- The factor by which the state after `t` steps decays until `T`. -/
def dec (t T : ℕ) : ℝ := Real.exp (B f T - B f t + M f g t - M f g T)

/-- A sum of the steps' terms `x s`, each with its weight: the memory and the normaliser are such sums. -/
def acc (x : ℕ → ℝ) (T : ℕ) : ℝ := ∑ s ∈ range T, wt f g T s * x s

theorem B_succ (T : ℕ) : B f (T + 1) = B f T + f T := sum_range_succ _ _

theorem B_add (t n : ℕ) : B f (t + n) = B f t + ∑ r ∈ range n, f (t + r) := sum_range_add _ _ _

/-- The running maximum is at least the decayed old one. -/
theorem M_ge_old (t n : ℕ) : B f (t + n) - B f t + M f g t ≤ M f g (t + n) := by
  induction n with
  | zero => simp
  | succ n ih =>
    rw [← add_assoc, B_succ]
    exact le_trans (by linarith) (le_max_left (f (t + n) + M f g (t + n)) _)

/-- The running maximum is at least each decayed input gate. -/
theorem M_ge_new (t n r : ℕ) (h : r < n) : B f (t + n) - B f (t + r + 1) + g (t + r) ≤ M f g (t + n) := by
  induction n with
  | zero => omega
  | succ n ih =>
    rw [← add_assoc, B_succ]
    rcases Nat.lt_succ_iff_lt_or_eq.1 h with h | rfl
    · exact le_trans (by linarith [ih h]) (le_max_left (f (t + n) + M f g (t + n)) _)
    · refine le_trans ?_ (le_max_right (f (t + r) + M f g (t + r)) _)
      rw [B_succ]; linarith

/-- The running maximum is one of these. -/
theorem M_attained (t n : ℕ) : M f g (t + n) = B f (t + n) - B f t + M f g t
    ∨ ∃ r < n, M f g (t + n) = B f (t + n) - B f (t + r + 1) + g (t + r) := by
  induction n with
  | zero => left; simp
  | succ n ih =>
    rw [show t + (n + 1) = t + n + 1 from rfl]
    rcases max_choice (f (t + n) + M f g (t + n)) (g (t + n)) with h | h
    · have h' : M f g (t + n + 1) = f (t + n) + M f g (t + n) := h
      rcases ih with e | ⟨r, hr, e⟩
      · left; rw [h', e, B_succ]; ring
      · right; exact ⟨r, by omega, by rw [h', e, B_succ f (t + n)]; ring⟩
    · right; exact ⟨n, by omega, by rw [show M f g (t + n + 1) = g (t + n) from h]; ring⟩

/-- A weighted sum after `n` more steps: the old one decayed, and the new terms. -/
theorem acc_add (x : ℕ → ℝ) (t n : ℕ) :
    acc f g x (t + n) = dec f g t (t + n) * acc f g x t + ∑ r ∈ range n, wt f g (t + n) (t + r) * x (t + r) := by
  unfold acc
  rw [sum_range_add, mul_sum]
  congr 1
  refine sum_congr rfl fun s _ => ?_
  rw [← mul_assoc, dec, wt, wt, ← Real.exp_add]
  congr 2; ring

/-! ## Sums over a chunk whose rows lie in any order -/

variable {L : ℕ} (e : Fin L ≃ Fin L)

/-- A sum over a chunk's rows up to one of them, in the order of time. -/
theorem sum_upto (p : Fin L) (F : ℕ → ℝ) :
    ∑ s : Fin L, (if e s ≤ e p then F (e s).val else 0) = ∑ r ∈ range ((e p).val + 1), F r := by
  rw [Equiv.sum_comp e (fun s => if s ≤ e p then F s.val else 0)]
  rw [← sum_filter]
  refine sum_bij (fun s _ => s.val) (fun s h => ?_) (fun a _ b _ h => Fin.ext h) (fun r h => ?_) (fun s _ => rfl)
  · have := (mem_filter.1 h).2; exact mem_range.2 (Nat.lt_succ_of_le this)
  · have h' := mem_range.1 h
    exact ⟨⟨r, by omega⟩, mem_filter.2 ⟨mem_univ _, by show r ≤ (e p).val; omega⟩, rfl⟩

/-- A sum over all of a chunk's rows. -/
theorem sum_all (F : ℕ → ℝ) : ∑ s : Fin L, F (e s).val = ∑ r ∈ range L, F r := by
  rw [Equiv.sum_comp e (fun s => F s.val), Fin.sum_univ_eq_sum_range F L]

/-- The state's weighted sum at a chunk's row. -/
theorem acc_row (x : ℕ → ℝ) (t : ℕ) (p : Fin L) :
    acc f g x (t + (e p).val + 1) = dec f g t (t + (e p).val + 1) * acc f g x t
      + ∑ s : Fin L, (if e s ≤ e p then wt f g (t + (e p).val + 1) (t + (e s).val) * x (t + (e s).val) else 0) := by
  rw [sum_upto e p (fun r => wt f g (t + (e p).val + 1) (t + r) * x (t + r)), add_assoc t, acc_add]

/-- The state's weighted sum after a chunk. -/
theorem acc_end (x : ℕ → ℝ) (t : ℕ) :
    acc f g x (t + L) = dec f g t (t + L) * acc f g x t
      + ∑ s : Fin L, wt f g (t + L) (t + (e s).val) * x (t + (e s).val) := by
  rw [sum_all e (fun r => wt f g (t + L) (t + r) * x (t + r)), acc_add]

/-! ## The same in extended reals, in which the programs compute -/

/-- A sum of real numbers, as an extended real. -/
theorem coe_sum {ι : Type*} (S : Finset ι) (x : ι → ℝ) : (∑ s ∈ S, (x s : EReal)) = ((∑ s ∈ S, x s : ℝ) : EReal) := by
  classical
  induction S using Finset.induction_on with
  | empty => simp
  | insert a S h ih => rw [sum_insert h, sum_insert h, ih, EReal.coe_add]

/-- The maximum of two real numbers, as an extended real. -/
theorem coe_max (a b : ℝ) : max (a : EReal) (b : EReal) = ((max a b : ℝ) : EReal) :=
  (EReal.coe_strictMono.monotone.map_max).symm

/-- The maximum of a number and finitely many others is the one that bounds all and is one of them. -/
theorem max_fold {n : ℕ} (a z : ℝ) (y : Fin n → EReal) (h₁ : a ≤ z) (h₂ : ∀ s, y s ≤ (z : EReal))
    (h₃ : z = a ∨ ∃ s, y s = (z : EReal)) : max (a : EReal) (univ.fold max ⊥ y) = (z : EReal) := by
  refine le_antisymm (max_le (EReal.coe_le_coe_iff.2 h₁) ((fold_max_le _).2 ⟨bot_le, fun s _ => h₂ s⟩)) ?_
  rcases h₃ with rfl | ⟨s, h⟩
  · exact le_max_left _ _
  · exact le_trans ((le_fold_max _).2 (Or.inr ⟨s, mem_univ _, h.ge⟩)) (le_max_right _ _)

/-- The log forget gates summed up to a chunk's row. -/
theorem sum_row (t : ℕ) (p : Fin L) :
    (∑ s : Fin L, (if e s ≤ e p then ((f (t + (e s).val) : ℝ) : EReal) else 0))
      = ((B f (t + (e p).val + 1) - B f t : ℝ) : EReal) := by
  have h : ∀ s : Fin L, (if e s ≤ e p then ((f (t + (e s).val) : ℝ) : EReal) else 0)
      = (((if e s ≤ e p then f (t + (e s).val) else 0 : ℝ)) : EReal) := fun s => by split <;> simp
  rw [sum_congr rfl fun s _ => h s, coe_sum, sum_upto e p (fun r => f (t + r)), add_assoc t, B_add, add_sub_cancel_left]

/-- The log forget gates summed over a chunk. -/
theorem sum_chunk (t : ℕ) :
    (∑ s : Fin L, ((f (t + (e s).val) : ℝ) : EReal)) = ((B f (t + L) - B f t : ℝ) : EReal) := by
  rw [coe_sum, sum_all e (fun r => f (t + r)), B_add, add_sub_cancel_left]

/-- The scale of a chunk's row. -/
theorem max_row (t : ℕ) (p : Fin L) :
    max (((B f (t + (e p).val + 1) - B f t : ℝ) : EReal) + ((M f g t : ℝ) : EReal))
      (univ.fold max ⊥ fun s : Fin L => if e s ≤ e p then
        ((B f (t + (e p).val + 1) - B f t : ℝ) : EReal) - ((B f (t + (e s).val + 1) - B f t : ℝ) : EReal)
          + ((g (t + (e s).val) : ℝ) : EReal) else ⊥)
      = ((M f g (t + (e p).val + 1) : ℝ) : EReal) := by
  rw [← EReal.coe_add]
  refine max_fold _ _ _ (M_ge_old f g t ((e p).val + 1)) (fun s => ?_) ?_
  · split
    · rename_i h
      have h' : (e s).val ≤ (e p).val := h
      have := M_ge_new f g t ((e p).val + 1) (e s).val (by omega)
      rw [← EReal.coe_sub, ← EReal.coe_add, EReal.coe_le_coe_iff]
      exact le_trans (le_of_eq (by rw [add_assoc t (e p).val]; ring)) this
    · exact bot_le
  · rcases M_attained f g t ((e p).val + 1) with h | ⟨r, hr, h⟩
    · left; exact h
    · right
      refine ⟨e.symm ⟨r, by omega⟩, ?_⟩
      have h' : (⟨r, by omega⟩ : Fin L) ≤ e p := by show r ≤ (e p).val; omega
      rw [Equiv.apply_symm_apply, if_pos h', ← EReal.coe_sub, ← EReal.coe_add, EReal.coe_eq_coe_iff]
      exact Eq.trans (by rw [add_assoc t (e p).val]; ring) h.symm

/-- The scale of the state after a chunk. -/
theorem max_chunk (t : ℕ) :
    max (((B f (t + L) - B f t : ℝ) : EReal) + ((M f g t : ℝ) : EReal))
      (univ.fold max ⊥ fun s : Fin L =>
        ((B f (t + L) - B f t : ℝ) : EReal) - ((B f (t + (e s).val + 1) - B f t : ℝ) : EReal)
          + ((g (t + (e s).val) : ℝ) : EReal))
      = ((M f g (t + L) : ℝ) : EReal) := by
  rw [← EReal.coe_add]
  refine max_fold _ _ _ (M_ge_old f g t L) (fun s => ?_) ?_
  · rw [← EReal.coe_sub, ← EReal.coe_add, EReal.coe_le_coe_iff]
    exact le_trans (le_of_eq (by ring)) (M_ge_new f g t L (e s).val (e s).isLt)
  · rcases M_attained f g t L with h | ⟨r, hr, h⟩
    · left; exact h
    · right
      refine ⟨e.symm ⟨r, hr⟩, ?_⟩
      rw [Equiv.apply_symm_apply, ← EReal.coe_sub, ← EReal.coe_add, EReal.coe_eq_coe_iff]
      exact Eq.trans (by ring) h.symm

/-- The factor of the old state in a chunk's row. -/
theorem exp_dec (t T : ℕ) :
    Idealize.ShloMosaic.Ideal.exp (((B f T - B f t : ℝ) : EReal) + ((M f g t : ℝ) : EReal) - ((M f g T : ℝ) : EReal))
      = ((dec f g t T : ℝ) : EReal) := by
  rw [← EReal.coe_add, ← EReal.coe_sub]; rfl

/-- The weight of a step in a chunk's row, zero for the steps that come later. -/
theorem exp_row (t : ℕ) (p s : Fin L) :
    Idealize.ShloMosaic.Ideal.exp ((if e s ≤ e p then
        ((B f (t + (e p).val + 1) - B f t : ℝ) : EReal) - ((B f (t + (e s).val + 1) - B f t : ℝ) : EReal)
          + ((g (t + (e s).val) : ℝ) : EReal) else ⊥) - ((M f g (t + (e p).val + 1) : ℝ) : EReal))
      = (((if e s ≤ e p then wt f g (t + (e p).val + 1) (t + (e s).val) else 0 : ℝ)) : EReal) := by
  split
  · rw [← EReal.coe_sub, ← EReal.coe_add, ← EReal.coe_sub]
    exact congrArg (fun x : ℝ => ((Real.exp x : ℝ) : EReal)) (by ring)
  · rw [EReal.bot_sub]; rfl

/-- The weight of a step in the state after a chunk. -/
theorem exp_chunk (t : ℕ) (s : Fin L) :
    Idealize.ShloMosaic.Ideal.exp (((B f (t + L) - B f t : ℝ) : EReal) - ((B f (t + (e s).val + 1) - B f t : ℝ) : EReal)
          + ((g (t + (e s).val) : ℝ) : EReal) - ((M f g (t + L) : ℝ) : EReal))
      = ((wt f g (t + L) (t + (e s).val) : ℝ) : EReal) := by
  rw [← EReal.coe_sub, ← EReal.coe_add, ← EReal.coe_sub]
  exact congrArg (fun x : ℝ => ((Real.exp x : ℝ) : EReal)) (by ring)

/-- The output: the memory read by `q`, over the normaliser read by `q`, which the scale bounds from below. -/
def out {D : ℕ} (q : Fin D → ℝ) (k : ℕ → Fin D → ℝ) (v : ℕ → ℝ) (T : ℕ) : ℝ :=
  (∑ d, q d * acc f g (fun s => k s d * v s) T)
    / max |∑ d, q d * acc f g (fun s => k s d) T| (Real.exp (-(M f g T)))

/-- The score of a chunk's row with a step: their product, with the weight. -/
theorem score {D : ℕ} (q k : Fin D → ℝ) (w : ℝ) :
    (∑ d, ((q d : ℝ) : EReal) * ((k d : ℝ) : EReal)) * (w : EReal) = (((∑ d, q d * k d) * w : ℝ) : EReal) := by
  rw [EReal.coe_mul, ← coe_sum]; simp only [EReal.coe_mul]

/-- What the new steps and the old state give a row is the read of the state at that row. -/
theorem read_row {D : ℕ} (q : Fin D → ℝ) (k : ℕ → Fin D → ℝ) (v : ℕ → ℝ) (t : ℕ) (p : Fin L) :
    (∑ s : Fin L, ((∑ d, q d * k (t + (e s).val) d)
          * (if e s ≤ e p then wt f g (t + (e p).val + 1) (t + (e s).val) else 0)) * v (t + (e s).val))
        + dec f g t (t + (e p).val + 1) * ∑ d, q d * acc f g (fun s => k s d * v s) t
      = ∑ d, q d * acc f g (fun s => k s d * v s) (t + (e p).val + 1) := by
  have h : ∀ d, q d * acc f g (fun s => k s d * v s) (t + (e p).val + 1)
      = dec f g t (t + (e p).val + 1) * (q d * acc f g (fun s => k s d * v s) t)
        + ∑ s : Fin L, q d * (if e s ≤ e p then wt f g (t + (e p).val + 1) (t + (e s).val)
            * (k (t + (e s).val) d * v (t + (e s).val)) else 0) := fun d => by
    rw [acc_row f g e, mul_add, mul_sum]; ring
  rw [sum_congr rfl fun d _ => h d, sum_add_distrib, ← mul_sum, add_comm]
  congr 1
  rw [sum_comm]
  refine sum_congr rfl fun s _ => ?_
  rw [sum_mul, sum_mul]
  refine sum_congr rfl fun d _ => ?_
  split <;> ring

/-- The numerator of a row's output. -/
theorem num_row {D : ℕ} (q : Fin D → ℝ) (k : ℕ → Fin D → ℝ) (v : ℕ → ℝ) (t : ℕ) (p : Fin L) :
    (∑ s : Fin L, (((∑ d, q d * k (t + (e s).val) d)
          * (if e s ≤ e p then wt f g (t + (e p).val + 1) (t + (e s).val) else 0) : ℝ) : EReal) * ((v (t + (e s).val) : ℝ) : EReal))
        + ((dec f g t (t + (e p).val + 1) : ℝ) : EReal)
          * ∑ d, ((q d : ℝ) : EReal) * ((acc f g (fun s => k s d * v s) t : ℝ) : EReal)
      = ((∑ d, q d * acc f g (fun s => k s d * v s) (t + (e p).val + 1) : ℝ) : EReal) := by
  rw [← read_row f g e q k v t p]
  simp only [EReal.coe_add, EReal.coe_mul, ← coe_sum]

/-- The denominator of a row's output. -/
theorem den_row {D : ℕ} (q : Fin D → ℝ) (k : ℕ → Fin D → ℝ) (t : ℕ) (p : Fin L) :
    (∑ s : Fin L, (((∑ d, q d * k (t + (e s).val) d)
          * (if e s ≤ e p then wt f g (t + (e p).val + 1) (t + (e s).val) else 0) : ℝ) : EReal))
        + ((dec f g t (t + (e p).val + 1) : ℝ) : EReal)
          * ∑ d, ((q d : ℝ) : EReal) * ((acc f g (fun s => k s d) t : ℝ) : EReal)
      = ((∑ d, q d * acc f g (fun s => k s d) (t + (e p).val + 1) : ℝ) : EReal) := by
  have h := num_row f g e q k (fun _ => 1) t p
  simpa only [EReal.coe_one, mul_one] using h

/-- The quotient of the two is the output. -/
theorem div_row {D : ℕ} (q : Fin D → ℝ) (k : ℕ → Fin D → ℝ) (v : ℕ → ℝ) (T : ℕ) :
    Idealize.ShloMosaic.Ideal.div ((∑ d, q d * acc f g (fun s => k s d * v s) T : ℝ) : EReal)
      (max (max ((∑ d, q d * acc f g (fun s => k s d) T : ℝ) : EReal) (-((∑ d, q d * acc f g (fun s => k s d) T : ℝ) : EReal)))
        (Idealize.ShloMosaic.Ideal.exp (-((M f g T : ℝ) : EReal))))
      = ((out f g q k v T : ℝ) : EReal) := by
  rw [← EReal.coe_neg, ← EReal.coe_neg, coe_max,
    show Idealize.ShloMosaic.Ideal.exp ((-(M f g T) : ℝ) : EReal) = ((Real.exp (-(M f g T)) : ℝ) : EReal) from rfl, coe_max,
    Idealize.ShloMosaic.Ideal.div_coe (lt_of_lt_of_le (Real.exp_pos _) (le_max_right _ _)).ne', out, abs_eq_max_neg, ← EReal.coe_mul,
    mul_one_div]

/-- The memory after a chunk. -/
theorem mem_chunk (k v : ℕ → ℝ) (t : ℕ) :
    ((dec f g t (t + L) : ℝ) : EReal) * ((acc f g (fun s => k s * v s) t : ℝ) : EReal)
      + ∑ s : Fin L, ((k (t + (e s).val) : ℝ) : EReal) * ((wt f g (t + L) (t + (e s).val) : ℝ) : EReal)
          * ((v (t + (e s).val) : ℝ) : EReal)
      = ((acc f g (fun s => k s * v s) (t + L) : ℝ) : EReal) := by
  rw [acc_end f g e]
  simp only [EReal.coe_add, EReal.coe_mul, ← coe_sum]
  congr 1
  exact sum_congr rfl fun s _ => by rw [mul_comm (k _ : EReal), mul_assoc]

/-- The normaliser after a chunk. -/
theorem nrm_chunk (k : ℕ → ℝ) (t : ℕ) :
    ((dec f g t (t + L) : ℝ) : EReal) * ((acc f g (fun s => k s) t : ℝ) : EReal)
      + ∑ s : Fin L, ((k (t + (e s).val) : ℝ) : EReal) * ((wt f g (t + L) (t + (e s).val) : ℝ) : EReal)
      = ((acc f g (fun s => k s) (t + L) : ℝ) : EReal) := by
  have h := mem_chunk f g e k (fun _ => 1) t
  simpa only [EReal.coe_one, mul_one] using h

end Cert.Seq

end
-- ==== Proof.Head.lean ====
/- One head's part of one trip of the scan, read at an index: it continues the scan over the reals by a chunk. -/
module

public import proofs.«01_k».proof.Proof.Gen.KernelIdeal.Skeleton
public import proofs.«01_k».proof.Proof.Math
public import Idealize.ShloMosaic.Lib.Pipeline.ValueKit

@[expose] public section

set_option maxRecDepth 16384

noncomputable section

open Idealize.ShloMosaic Idealize.ShloMosaic.Pointwise

namespace Cert.Head

open Cert.KernelIdeal Cert.KernelIdeal.Gen Cert.Seq

variable (f g : ℕ → ℝ) (qq kk : ℕ → Fin 256 → ℝ) (vv : ℕ → Fin 512 → ℝ) (t : ℕ) (e : Fin 128 ≃ Fin 128)

/-- Which rows of a chunk a row sees. -/
def Sees (msk : IVec S128x128 1) : Prop := ∀ p s : Fin 128, msk (ix2 p s) = if e s ≤ e p then 1#1 else 0#1

/-- The same with rows and columns exchanged. -/
def SeesT (msk : IVec S128x128 1) : Prop := ∀ s p : Fin 128, msk (ix2 s p) = if e s ≤ e p then 1#1 else 0#1

/-- A choice by a decided mask. -/
theorem select_if {α : Type} (P : Prop) [Decidable P] (a b : α) :
    Scalar.select (if P then 1#1 else 0#1) a b = if P then a else b := by
  split <;> rfl

/-- The mask of the diagonal. -/
theorem eye_at : ∀ p s : Fin 128, k0_pay6 (ix2 p s) = if p = s then 1#1 else 0#1 := by
  intro p s
  pointwise [k0_pay6]
  revert p s; decide +kernel

/-- The float pattern of minus infinity. -/
theorem ofBits_bot : Ideal.ofBits FTy.f32 0xFF800000#32 = ⊥ := by
  simp [Ideal.ofBits, Ideal.ieee]

/-- The gates summed up to each row, along the columns. -/
theorem brow (msk : IVec S128x128 1) (hm : SeesT e msk) (lf : FVec Ideal S128x1 .f32)
    (hl : ∀ p, lf (ix2 p 0) = ((f (t + (e p).val) : ℝ) : EReal)) (p : Fin 128) :
    k0_pay57 msk lf (ix2 0 p) = ((B f (t + (e p).val + 1) - B f t : ℝ) : EReal) := by
  pointwise [k0_pay57]
  rw [← sum_row f e t p]
  exact Finset.sum_congr rfl fun s _ => by rw [hm s p, select_if, hl]

/-- The input gates turned into a row. -/
theorem irow (ic : FVec Ideal S128x1 .f32) (p : Fin 128) : k0_pay61 k0_pay6 ic (ix2 0 p) = ic (ix2 p 0) := by
  pointwise [k0_pay61]
  simp only [eye_at, select_if, Finset.sum_ite_eq', Finset.mem_univ, if_true]

/-- The gates summed over the chunk. -/
theorem bend (lf : FVec Ideal S128x1 .f32)
    (hl : ∀ p, lf (ix2 p 0) = ((f (t + (e p).val) : ℝ) : EReal)) :
    k0_pay66 lf (ix2 0 0) = ((B f (t + 128) - B f t : ℝ) : EReal) := by
  pointwise [k0_pay66]
  rw [← sum_chunk f e t]
  exact Finset.sum_congr rfl fun s _ => hl s

/-- The summed gates turned into a column. -/
theorem bcol (bro : FVec Ideal S1x128 .f32) (p : Fin 128) : k0_pay70 k0_pay6 bro (ix2 p 0) = bro (ix2 0 p) := by
  pointwise [k0_pay70]
  simp only [eye_at, select_if, Finset.sum_ite_eq, Finset.mem_univ, if_true]

/-- The exponents of the scores. -/
theorem dmat (msk : IVec S128x128 1) (hm : Sees e msk) (bro iro : FVec Ideal S1x128 .f32) (bco : FVec Ideal S128x1 .f32) (p s : Fin 128) :
    k0_pay75 msk bro iro bco (ix2 p s) = if e s ≤ e p then bco (ix2 p 0) - bro (ix2 0 s) + iro (ix2 0 s) else ⊥ := by
  pointwise [k0_pay75]
  rw [hm p s, select_if, ofBits_bot]

/-- Their greatest along a row. -/
theorem dmax (msk : IVec S128x128 1) (hm : Sees e msk) (bro iro : FVec Ideal S1x128 .f32) (bco : FVec Ideal S128x1 .f32) (p : Fin 128) :
    k0_pay83 msk bro iro bco (ix2 p 0) = Finset.univ.fold max ⊥ fun s : Fin 128 =>
      if e s ≤ e p then bco (ix2 p 0) - bro (ix2 0 s) + iro (ix2 0 s) else ⊥ := by
  pointwise [k0_pay83]
  rw [ofBits_bot]
  exact congrArg (fun F => Finset.fold max ⊥ F Finset.univ) (funext fun s => dmat e msk hm bro iro bco p s)

/-! ## The head's stages, one after the other -/

variable (msk mskT : IVec S128x128 1) (q k : FVec Ideal S128x256 .f32) (v : FVec Ideal S128x512 .f32)
  (gts : FVec Ideal S128x2 .f32) (C : FVec Ideal S256x512 .f32) (n : FVec Ideal S1x256 .f32) (mm : FVec Ideal S1x1 .f32)

/-- The head's log forget gates. -/
abbrev lf := k0_pay45 gts
/-- The head's input gates. -/
abbrev ic := k0_pay41 gts
/-- The head's log forget gates summed to each row, along a row. -/
def bro := k0_pay57 mskT (lf gts)
/-- The head's input gates along a row. -/
def iro := k0_pay61 k0_pay6 (ic gts)
/-- The head's sum of the log forget gates. -/
def be := k0_pay66 (lf gts)
/-- The head's summed gates along a column. -/
def bco := k0_pay70 k0_pay6 (bro mskT gts)
/-- The head's exponents of the scores. -/
def dm := k0_pay75 msk (bro mskT gts) (iro gts) (bco mskT gts)
/-- The head's exponents of the new steps. -/
def ww := k0_pay79 (ic gts) (be gts) (bco mskT gts)
/-- The head's greatest exponents. -/
def dx := k0_pay83 msk (bro mskT gts) (iro gts) (bco mskT gts)
/-- The head's rows' scales. -/
def mt := k0_pay90 mm (bco mskT gts) (dx msk mskT gts)
/-- The head's new scale. -/
def mn := k0_pay94 mm (be gts) (ww mskT gts)
/-- The head's scores. -/
def sc := k0_pay98 mm (k0_pay49 k (k0_pay32 q)) (bco mskT gts) (dm msk mskT gts) (dx msk mskT gts)
/-- The head's old state's factor in each row. -/
def ei := k0_pay102 mm (bco mskT gts) (dx msk mskT gts)
/-- The head's scaled exponents of the new steps. -/
def wm := k0_pay106 mm (be gts) (ww mskT gts)
/-- The head's weighted keys. -/
def kw := k0_pay107 k (wm mskT gts mm)
/-- The head's old state's factor. -/
def dc := k0_pay111 mm (be gts) (mn mskT gts mm)
/-- The head's numerators. -/
def nu := k0_pay115 (k0_pay37 v) (k0_pay53 C (k0_pay32 q)) (sc msk mskT q k gts mm) (ei msk mskT gts mm)
/-- The head's new steps' part of the memory. -/
def kv := k0_pay119 k (k0_pay37 v) (wm mskT gts mm)
/-- The head's denominators. -/
def ad := k0_pay126 n (k0_pay32 q) (sc msk mskT q k gts mm) (ei msk mskT gts mm)
/-- The head's output rows. -/
def oH := k0_pay127 (mt msk mskT gts mm) (nu msk mskT q k v gts C mm) (ad msk mskT q k gts n mm) (Scalar.ofBits (F := Ideal) .f32 0x00000000#32)
/-- The head's memory after the chunk. -/
def oC := k0_pay128 C (dc mskT gts mm) (kv mskT k v gts mm)
/-- The head's normaliser after the chunk. -/
def oN := k0_pay129 n (kw mskT k gts mm) (dc mskT gts mm)

/-- What a head's chunk is given: the rows from time `t`, in the order `e`, and the state at time `t`. -/
structure In : Prop where
  sees : Sees e msk
  seesT : SeesT e mskT
  lf : ∀ p, k0_pay45 (F := Ideal) gts (ix2 p 0) = ((f (t + (e p).val) : ℝ) : EReal)
  ic : ∀ p, k0_pay41 (F := Ideal) gts (ix2 p 0) = ((g (t + (e p).val) : ℝ) : EReal)
  q : ∀ p d, k0_pay32 (F := Ideal) q (ix2 p d) = ((qq (t + (e p).val) d : ℝ) : EReal)
  k : ∀ p d, k (ix2 p d) = ((kk (t + (e p).val) d : ℝ) : EReal)
  v : ∀ p x, v (ix2 p x) = ((vv (t + (e p).val) x : ℝ) : EReal)
  C : ∀ d x, C (ix2 d x) = ((acc f g (fun s => kk s d * vv s x) t : ℝ) : EReal)
  n : ∀ d, n (ix2 0 d) = ((acc f g (fun s => kk s d) t : ℝ) : EReal)
  m : mm (ix2 0 0) = ((M f g t : ℝ) : EReal)

variable {f g qq kk vv t e msk mskT q k v gts C n mm} (h : In f g qq kk vv t e msk mskT q k v gts C n mm)
include h

theorem bro_at (p : Fin 128) : bro mskT gts (ix2 0 p) = ((B f (t + (e p).val + 1) - B f t : ℝ) : EReal) :=
  brow f t e mskT h.seesT _ h.lf p

theorem bco_at (p : Fin 128) : bco mskT gts (ix2 p 0) = ((B f (t + (e p).val + 1) - B f t : ℝ) : EReal) :=
  (bcol _ p).trans (bro_at h p)

theorem iro_at (p : Fin 128) : iro gts (ix2 0 p) = ((g (t + (e p).val) : ℝ) : EReal) := (irow _ p).trans (h.ic p)

theorem be_at : be gts (ix2 0 0) = ((B f (t + 128) - B f t : ℝ) : EReal) := bend f t e _ h.lf

theorem dm_at (p s : Fin 128) : dm msk mskT gts (ix2 p s) = if e s ≤ e p then
        ((B f (t + (e p).val + 1) - B f t : ℝ) : EReal) - ((B f (t + (e s).val + 1) - B f t : ℝ) : EReal)
          + ((g (t + (e s).val) : ℝ) : EReal) else ⊥ := by
  rw [dm, dmat e msk h.sees, bco_at h, bro_at h, iro_at h]

theorem mt_at (p : Fin 128) : mt msk mskT gts mm (ix2 p 0) = ((M f g (t + (e p).val + 1) : ℝ) : EReal) := by
  unfold mt
  pointwise [k0_pay90, k0_pay86]
  rw [dx, dmax e msk h.sees]
  simp only [bco_at h, bro_at h, iro_at h, h.m]
  exact max_row f g e t p

theorem ww_at (p : Fin 128) : ww mskT gts (ix2 p 0) =
    ((B f (t + 128) - B f t : ℝ) : EReal) - ((B f (t + (e p).val + 1) - B f t : ℝ) : EReal)
          + ((g (t + (e p).val) : ℝ) : EReal) := by
  unfold ww
  pointwise [k0_pay79]
  rw [be_at h, bco_at h]
  exact congrArg _ (h.ic p)

theorem mn_at : mn mskT gts mm (ix2 0 0) = ((M f g (t + 128) : ℝ) : EReal) := by
  unfold mn
  pointwise [k0_pay94]
  rw [ofBits_bot]
  simp only [ww_at h, be_at h, h.m]
  exact max_chunk f g e t

theorem sc_at (p s : Fin 128) : sc msk mskT q k gts mm (ix2 p s) = (((∑ d, qq (t + (e p).val) d * kk (t + (e s).val) d)
          * (if e s ≤ e p then wt f g (t + (e p).val + 1) (t + (e s).val) else 0) : ℝ) : EReal) := by
  have hm := mt_at h p
  unfold mt at hm
  unfold sc
  pointwise [k0_pay98, k0_pay49]
  rw [hm, dm_at h]
  simp only [h.q, h.k]
  rw [exp_row f g e t p s, score]

theorem ei_at (p : Fin 128) : ei msk mskT gts mm (ix2 p 0) = ((dec f g t (t + (e p).val + 1) : ℝ) : EReal) := by
  have hm := mt_at h p
  unfold mt at hm
  unfold ei
  pointwise [k0_pay102, k0_pay86]
  rw [hm, bco_at h, h.m]
  exact exp_dec f g t _

theorem wm_at (p : Fin 128) : wm mskT gts mm (ix2 p 0) =
    ((B f (t + 128) - B f t : ℝ) : EReal) - ((B f (t + (e p).val + 1) - B f t : ℝ) : EReal)
          + ((g (t + (e p).val) : ℝ) : EReal) - ((M f g (t + 128) : ℝ) : EReal) := by
  have hm := mn_at h
  unfold mn at hm
  unfold wm
  pointwise [k0_pay106]
  rw [hm, ww_at h]

theorem kw_at (p : Fin 128) (d : Fin 256) : kw mskT k gts mm (ix2 p d) =
    ((kk (t + (e p).val) d : ℝ) : EReal) * ((wt f g (t + 128) (t + (e p).val) : ℝ) : EReal) := by
  unfold kw
  pointwise [k0_pay107]
  rw [wm_at h, h.k, exp_chunk f g e t p]

theorem dc_at : dc mskT gts mm (ix2 0 0) = ((dec f g t (t + 128) : ℝ) : EReal) := by
  unfold dc
  pointwise [k0_pay111]
  rw [be_at h, h.m, mn_at h]
  exact exp_dec f g t _

theorem nu_at (p : Fin 128) (x : Fin 512) : nu msk mskT q k v gts C mm (ix2 p x)
    = ((∑ d, qq (t + (e p).val) d * acc f g (fun s => kk s d * vv s x) (t + (e p).val + 1) : ℝ) : EReal) := by
  unfold nu
  pointwise [k0_pay115, k0_pay53, k0_pay37]
  simp only [sc_at h, ei_at h, h.q, h.v, h.C]
  exact num_row f g e (qq (t + (e p).val)) kk (fun s => vv s x) t p

theorem ad_at (p : Fin 128) : ad msk mskT q k gts n mm (ix2 p 0)
    = max ((∑ d, qq (t + (e p).val) d * acc f g (fun s => kk s d) (t + (e p).val + 1) : ℝ) : EReal)
      (-((∑ d, qq (t + (e p).val) d * acc f g (fun s => kk s d) (t + (e p).val + 1) : ℝ) : EReal)) := by
  unfold ad
  pointwise [k0_pay126]
  simp only [sc_at h, ei_at h, h.q, h.n]
  rw [den_row f g e (qq (t + (e p).val)) kk t p]
  rfl

/-- The head's output at a row. -/
theorem out_at (p : Fin 128) (x : Fin 512) : oH msk mskT q k v gts C n mm (ix2 p x)
    = ((out f g (qq (t + (e p).val)) kk (fun s => vv s x) (t + (e p).val + 1) : ℝ) : EReal) := by
  unfold oH
  pointwise [k0_pay127]
  rw [nu_at h, ad_at h, mt_at h]
  simp only [sub_eq_add_neg, zero_add]
  exact div_row f g _ kk _ _

/-- The head's memory after the chunk. -/
theorem mem_at (d : Fin 256) (x : Fin 512) : oC mskT k v gts C mm (ix2 d x)
    = ((acc f g (fun s => kk s d * vv s x) (t + 128) : ℝ) : EReal) := by
  have hk := fun p => kw_at h p d
  unfold kw at hk
  unfold oC kv
  pointwise [k0_pay128, k0_pay119, k0_pay37]
  simp only [hk, h.C, h.v, dc_at h]
  exact mem_chunk f g e (fun s => kk s d) (fun s => vv s x) t

/-- The head's normaliser after the chunk. -/
theorem nrm_at (d : Fin 256) : oN mskT k gts n mm (ix2 0 d)
    = ((acc f g (fun s => kk s d) (t + 128) : ℝ) : EReal) := by
  unfold oN
  pointwise [k0_pay129]
  simp only [kw_at h, h.n, dc_at h]
  exact nrm_chunk f g e (fun s => kk s d) t

end Cert.Head

end
-- ==== Proof.Trip.lean ====
/- What a trip of the scan's loop stores, head by head: each head's part as one function of what it loads. -/
module

public import proofs.«01_k».proof.Proof.Frame
public import proofs.«01_k».proof.Proof.Head

@[expose] public section

set_option maxRecDepth 16384

noncomputable section

namespace Cert.Scan

open Cert.KernelIdeal Cert.KernelIdeal.Gen
open Idealize.ShloMosaic Idealize.ShloMosaic.TcCoe Idealize.ShloMosaic.Tactic Idealize.ShloMosaic.Pointwise

section

variable (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (k : Fin k0_t1_loop.trips)
  (f13 : Buf (Elt Ideal) (arg13.view.loc (c : Thread nD τ))) (f14 : Buf (Elt Ideal) (arg14.view.loc (c : Thread nD τ))) (f15 : Buf (Elt Ideal) (arg15.view.loc (c : Thread nD τ)))

/-- What the first head loads: `q`, `k`, `v`, the gates, and its state. -/
abbrev lq0 : FVec Ideal S128x256 .f32 := arg4.view.readAt (Elt Ideal) (Rect.unit (s := S256x1024) (k0_off1 i k) S128x256.size (k0_off1_inb i k)).toLoadRect X4
abbrev lk0 : FVec Ideal S128x256 .f32 := arg5.view.readAt (Elt Ideal) (Rect.unit (s := S256x1024) (k0_off1 i k) S128x256.size (k0_off1_inb i k)).toLoadRect X5
abbrev lv0 : FVec Ideal S128x512 .f32 := k0_pay12 (arg6.view.readAt (Elt Ideal) (Rect.unit (s := S256x2048) (k0_off2 i k) S128x512.size (k0_off2_inb i k)).toLoadRect X6)
abbrev lg0 : FVec Ideal S128x2 .f32 := k0_pay13 (arg7.view.readAt (Elt Ideal) (Rect.unit (s := S1x4x256x2) (k0_off3 i k) S1x1x128x2.size (k0_off3_inb i k)).toLoadRect X7)
  (arg8.view.readAt (Elt Ideal) (Rect.unit (s := S1x4x1x2) ![0, 0, 0, 0] S1x1x1x2.size inb_S1x4x1x2_S1x1x1x2_0_0_0_0).toLoadRect X8)
abbrev lC0 : FVec Ideal S256x512 .f32 := k0_pay14 (arg13.view.readAt (Elt Ideal) (Rect.unit (s := S4x256x512) ![0, 0, 0] S1x256x512.size inb_S4x256x512_S1x256x512_0_0_0).toLoadRect f13)
abbrev ln0 : FVec Ideal S1x256 .f32 := k0_pay15 (arg14.view.readAt (Elt Ideal) (Rect.unit (s := S4x1x256) ![0, 0, 0] S1x1x256.size inb_S4x1x256_S1x1x256_0_0_0).toLoadRect f14)
abbrev lm0 : FVec Ideal S1x1 .f32 := k0_pay16 (arg15.view.readAt (Elt Ideal) (Rect.unit (s := S4x1x1) ![0, 0, 0] S1x1x1.size inb_S4x1x1_S1x1x1_0_0_0).toLoadRect f15)

/-- What the second head loads: `q`, `k`, `v`, the gates, and its state. -/
abbrev lq1 : FVec Ideal S128x256 .f32 := arg4.view.readAt (Elt Ideal) (Rect.unit (s := S256x1024) (k0_off4 i k) S128x256.size (k0_off4_inb i k)).toLoadRect X4
abbrev lk1 : FVec Ideal S128x256 .f32 := arg5.view.readAt (Elt Ideal) (Rect.unit (s := S256x1024) (k0_off4 i k) S128x256.size (k0_off4_inb i k)).toLoadRect X5
abbrev lv1 : FVec Ideal S128x512 .f32 := k0_pay12 (arg6.view.readAt (Elt Ideal) (Rect.unit (s := S256x2048) (k0_off5 i k) S128x512.size (k0_off5_inb i k)).toLoadRect X6)
abbrev lg1 : FVec Ideal S128x2 .f32 := k0_pay13 (arg7.view.readAt (Elt Ideal) (Rect.unit (s := S1x4x256x2) (k0_off6 i k) S1x1x128x2.size (k0_off6_inb i k)).toLoadRect X7)
  (arg8.view.readAt (Elt Ideal) (Rect.unit (s := S1x4x1x2) ![0, 1, 0, 0] S1x1x1x2.size inb_S1x4x1x2_S1x1x1x2_0_1_0_0).toLoadRect X8)
abbrev lC1 : FVec Ideal S256x512 .f32 := k0_pay14 (arg13.view.readAt (Elt Ideal) (Rect.unit (s := S4x256x512) ![1, 0, 0] S1x256x512.size inb_S4x256x512_S1x256x512_1_0_0).toLoadRect f13)
abbrev ln1 : FVec Ideal S1x256 .f32 := k0_pay15 (arg14.view.readAt (Elt Ideal) (Rect.unit (s := S4x1x256) ![1, 0, 0] S1x1x256.size inb_S4x1x256_S1x1x256_1_0_0).toLoadRect f14)
abbrev lm1 : FVec Ideal S1x1 .f32 := k0_pay16 (arg15.view.readAt (Elt Ideal) (Rect.unit (s := S4x1x1) ![1, 0, 0] S1x1x1.size inb_S4x1x1_S1x1x1_1_0_0).toLoadRect f15)

/-- What the third head loads: `q`, `k`, `v`, the gates, and its state. -/
abbrev lq2 : FVec Ideal S128x256 .f32 := arg4.view.readAt (Elt Ideal) (Rect.unit (s := S256x1024) (k0_off7 i k) S128x256.size (k0_off7_inb i k)).toLoadRect X4
abbrev lk2 : FVec Ideal S128x256 .f32 := arg5.view.readAt (Elt Ideal) (Rect.unit (s := S256x1024) (k0_off7 i k) S128x256.size (k0_off7_inb i k)).toLoadRect X5
abbrev lv2 : FVec Ideal S128x512 .f32 := k0_pay12 (arg6.view.readAt (Elt Ideal) (Rect.unit (s := S256x2048) (k0_off8 i k) S128x512.size (k0_off8_inb i k)).toLoadRect X6)
abbrev lg2 : FVec Ideal S128x2 .f32 := k0_pay13 (arg7.view.readAt (Elt Ideal) (Rect.unit (s := S1x4x256x2) (k0_off9 i k) S1x1x128x2.size (k0_off9_inb i k)).toLoadRect X7)
  (arg8.view.readAt (Elt Ideal) (Rect.unit (s := S1x4x1x2) ![0, 2, 0, 0] S1x1x1x2.size inb_S1x4x1x2_S1x1x1x2_0_2_0_0).toLoadRect X8)
abbrev lC2 : FVec Ideal S256x512 .f32 := k0_pay14 (arg13.view.readAt (Elt Ideal) (Rect.unit (s := S4x256x512) ![2, 0, 0] S1x256x512.size inb_S4x256x512_S1x256x512_2_0_0).toLoadRect f13)
abbrev ln2 : FVec Ideal S1x256 .f32 := k0_pay15 (arg14.view.readAt (Elt Ideal) (Rect.unit (s := S4x1x256) ![2, 0, 0] S1x1x256.size inb_S4x1x256_S1x1x256_2_0_0).toLoadRect f14)
abbrev lm2 : FVec Ideal S1x1 .f32 := k0_pay16 (arg15.view.readAt (Elt Ideal) (Rect.unit (s := S4x1x1) ![2, 0, 0] S1x1x1.size inb_S4x1x1_S1x1x1_2_0_0).toLoadRect f15)

/-- What the fourth head loads: `q`, `k`, `v`, the gates, and its state. -/
abbrev lq3 : FVec Ideal S128x256 .f32 := arg4.view.readAt (Elt Ideal) (Rect.unit (s := S256x1024) (k0_off10 i k) S128x256.size (k0_off10_inb i k)).toLoadRect X4
abbrev lk3 : FVec Ideal S128x256 .f32 := arg5.view.readAt (Elt Ideal) (Rect.unit (s := S256x1024) (k0_off10 i k) S128x256.size (k0_off10_inb i k)).toLoadRect X5
abbrev lv3 : FVec Ideal S128x512 .f32 := k0_pay12 (arg6.view.readAt (Elt Ideal) (Rect.unit (s := S256x2048) (k0_off11 i k) S128x512.size (k0_off11_inb i k)).toLoadRect X6)
abbrev lg3 : FVec Ideal S128x2 .f32 := k0_pay13 (arg7.view.readAt (Elt Ideal) (Rect.unit (s := S1x4x256x2) (k0_off12 i k) S1x1x128x2.size (k0_off12_inb i k)).toLoadRect X7)
  (arg8.view.readAt (Elt Ideal) (Rect.unit (s := S1x4x1x2) ![0, 3, 0, 0] S1x1x1x2.size inb_S1x4x1x2_S1x1x1x2_0_3_0_0).toLoadRect X8)
abbrev lC3 : FVec Ideal S256x512 .f32 := k0_pay14 (arg13.view.readAt (Elt Ideal) (Rect.unit (s := S4x256x512) ![3, 0, 0] S1x256x512.size inb_S4x256x512_S1x256x512_3_0_0).toLoadRect f13)
abbrev ln3 : FVec Ideal S1x256 .f32 := k0_pay15 (arg14.view.readAt (Elt Ideal) (Rect.unit (s := S4x1x256) ![3, 0, 0] S1x1x256.size inb_S4x1x256_S1x1x256_3_0_0).toLoadRect f14)
abbrev lm3 : FVec Ideal S1x1 .f32 := k0_pay16 (arg15.view.readAt (Elt Ideal) (Rect.unit (s := S4x1x1) ![3, 0, 0] S1x1x1.size inb_S4x1x1_S1x1x1_3_0_0).toLoadRect f15)

/-- The pieces with each head's output rows. -/
theorem trip_out : (trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 =
    [⟨Rect.unit (k0_off16 i k) S1x128x512.size (k0_off16_inb i k), k0_pay139 (Head.oH (k0_pay4 i) (k0_pay5 i) (lq3 c i arg4 X4 k) (lk3 c i arg5 X5 k) (lv3 c i arg6 X6 k) (lg3 c i arg7 arg8 X7 X8 k) (lC3 c arg13 f13) (ln3 c arg14 f14) (lm3 c arg15 f15))⟩,
     ⟨Rect.unit (k0_off15 i k) S1x128x512.size (k0_off15_inb i k), k0_pay139 (Head.oH (k0_pay4 i) (k0_pay5 i) (lq2 c i arg4 X4 k) (lk2 c i arg5 X5 k) (lv2 c i arg6 X6 k) (lg2 c i arg7 arg8 X7 X8 k) (lC2 c arg13 f13) (ln2 c arg14 f14) (lm2 c arg15 f15))⟩,
     ⟨Rect.unit (k0_off14 i k) S1x128x512.size (k0_off14_inb i k), k0_pay139 (Head.oH (k0_pay4 i) (k0_pay5 i) (lq1 c i arg4 X4 k) (lk1 c i arg5 X5 k) (lv1 c i arg6 X6 k) (lg1 c i arg7 arg8 X7 X8 k) (lC1 c arg13 f13) (ln1 c arg14 f14) (lm1 c arg15 f15))⟩,
     ⟨Rect.unit (k0_off13 i k) S1x128x512.size (k0_off13_inb i k), k0_pay139 (Head.oH (k0_pay4 i) (k0_pay5 i) (lq0 c i arg4 X4 k) (lk0 c i arg5 X5 k) (lv0 c i arg6 X6 k) (lg0 c i arg7 arg8 X7 X8 k) (lC0 c arg13 f13) (ln0 c arg14 f14) (lm0 c arg15 f15))⟩] := by
  unfold trip
  rfl

/-- The pieces with each head's memory. -/
theorem trip_C : (trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15 =
    [⟨Rect.unit ![3, 0, 0] S1x256x512.size inb_S4x256x512_S1x256x512_3_0_0, k0_pay140 (Head.oC (k0_pay5 i) (lk3 c i arg5 X5 k) (lv3 c i arg6 X6 k) (lg3 c i arg7 arg8 X7 X8 k) (lC3 c arg13 f13) (lm3 c arg15 f15))⟩,
     ⟨Rect.unit ![2, 0, 0] S1x256x512.size inb_S4x256x512_S1x256x512_2_0_0, k0_pay140 (Head.oC (k0_pay5 i) (lk2 c i arg5 X5 k) (lv2 c i arg6 X6 k) (lg2 c i arg7 arg8 X7 X8 k) (lC2 c arg13 f13) (lm2 c arg15 f15))⟩,
     ⟨Rect.unit ![1, 0, 0] S1x256x512.size inb_S4x256x512_S1x256x512_1_0_0, k0_pay140 (Head.oC (k0_pay5 i) (lk1 c i arg5 X5 k) (lv1 c i arg6 X6 k) (lg1 c i arg7 arg8 X7 X8 k) (lC1 c arg13 f13) (lm1 c arg15 f15))⟩,
     ⟨Rect.unit ![0, 0, 0] S1x256x512.size inb_S4x256x512_S1x256x512_0_0_0, k0_pay140 (Head.oC (k0_pay5 i) (lk0 c i arg5 X5 k) (lv0 c i arg6 X6 k) (lg0 c i arg7 arg8 X7 X8 k) (lC0 c arg13 f13) (lm0 c arg15 f15))⟩] := by
  unfold trip
  rfl

/-- The pieces with each head's normaliser. -/
theorem trip_n : (trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15 =
    [⟨Rect.unit ![3, 0, 0] S1x1x256.size inb_S4x1x256_S1x1x256_3_0_0, k0_pay141 (Head.oN (k0_pay5 i) (lk3 c i arg5 X5 k) (lg3 c i arg7 arg8 X7 X8 k) (ln3 c arg14 f14) (lm3 c arg15 f15))⟩,
     ⟨Rect.unit ![2, 0, 0] S1x1x256.size inb_S4x1x256_S1x1x256_2_0_0, k0_pay141 (Head.oN (k0_pay5 i) (lk2 c i arg5 X5 k) (lg2 c i arg7 arg8 X7 X8 k) (ln2 c arg14 f14) (lm2 c arg15 f15))⟩,
     ⟨Rect.unit ![1, 0, 0] S1x1x256.size inb_S4x1x256_S1x1x256_1_0_0, k0_pay141 (Head.oN (k0_pay5 i) (lk1 c i arg5 X5 k) (lg1 c i arg7 arg8 X7 X8 k) (ln1 c arg14 f14) (lm1 c arg15 f15))⟩,
     ⟨Rect.unit ![0, 0, 0] S1x1x256.size inb_S4x1x256_S1x1x256_0_0_0, k0_pay141 (Head.oN (k0_pay5 i) (lk0 c i arg5 X5 k) (lg0 c i arg7 arg8 X7 X8 k) (ln0 c arg14 f14) (lm0 c arg15 f15))⟩] := by
  unfold trip
  rfl

/-- The pieces with each head's scale. -/
theorem trip_m : (trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15 =
    [⟨Rect.unit ![3, 0, 0] S1x1x1.size inb_S4x1x1_S1x1x1_3_0_0, k0_pay142 (Head.mn (k0_pay5 i) (lg3 c i arg7 arg8 X7 X8 k) (lm3 c arg15 f15))⟩,
     ⟨Rect.unit ![2, 0, 0] S1x1x1.size inb_S4x1x1_S1x1x1_2_0_0, k0_pay142 (Head.mn (k0_pay5 i) (lg2 c i arg7 arg8 X7 X8 k) (lm2 c arg15 f15))⟩,
     ⟨Rect.unit ![1, 0, 0] S1x1x1.size inb_S4x1x1_S1x1x1_1_0_0, k0_pay142 (Head.mn (k0_pay5 i) (lg1 c i arg7 arg8 X7 X8 k) (lm1 c arg15 f15))⟩,
     ⟨Rect.unit ![0, 0, 0] S1x1x1.size inb_S4x1x1_S1x1x1_0_0_0, k0_pay142 (Head.mn (k0_pay5 i) (lg0 c i arg7 arg8 X7 X8 k) (lm0 c arg15 f15))⟩] := by
  unfold trip
  rfl

end

end Cert.Scan

end
-- ==== Proof.Rows.lean ====
/- What the scan's trip reads of its blocks and its state, at an index. -/
module

public import proofs.«01_k».proof.Proof.Trip
public import Idealize.ShloMosaic.Lib.WritesUnit

@[expose] public section

set_option maxRecDepth 16384

noncomputable section

namespace Cert.Scan

open Cert.KernelIdeal Cert.KernelIdeal.Gen Cert.Head Cert.Seq
open Idealize.ShloMosaic Idealize.ShloMosaic.TcCoe Idealize.ShloMosaic.Tactic Idealize.ShloMosaic.Pointwise

/-- The row that a direction works on at a time. -/
def rho (d τ : ℕ) : ℕ := if d = 0 then τ else 255 - τ

/-- The order in which a direction works on a chunk's rows. -/
def ord (d : ℕ) : Fin 128 ≃ Fin 128 := if d = 0 then Equiv.refl _ else Fin.revPerm

/-- A trip's rows are those of its chunk of times. -/
theorem row_eq (d k : ℕ) (hd : d < 2) (hk : k < 2) (p : Fin 128) :
    128 * ((k + d) % 2) + p.val = rho d (128 * k + (ord d p).val) := by
  have hp := p.isLt
  have : d = 0 ∨ d = 1 := by omega
  rcases this with rfl | rfl
  · simp [rho, ord]; omega
  · simp [rho, ord, Fin.rev]; omega

theorem mask_at (d : Fin 2) (p s : Fin 128) : Scalar.cmpi .sge (Scalar.muli (Scalar.subi 1#32 (Scalar.muli 2#32 (BitVec.ofNat 32 d.val)))
    (Scalar.subi (BitVec.ofNat 32 p.val) (BitVec.ofNat 32 s.val))) 0#32 = if ord d.val s ≤ ord d.val p then 1#1 else 0#1 := by
  revert d p s
  decide +kernel

theorem sees (i : grid0.Coords) : Sees (ord (i 2).val) (k0_pay4 i) := by
  intro p s
  pointwise [k0_pay4]
  exact mask_at (i 2) p s

theorem seesT (i : grid0.Coords) : SeesT (ord (i 2).val) (k0_pay5 i) := by
  intro s p
  pointwise [k0_pay5]
  exact mask_at (i 2) p s

/-- The logarithm of the logistic function. -/
def lsig (x : ℝ) : ℝ := min x 0 - Real.log (1 + Real.exp (-|x|))

theorem log1p_exp (y : ℝ) : Ideal.log1p (Ideal.exp (y : EReal)) = ((Real.log (1 + Real.exp y) : ℝ) : EReal) := by
  have h := Real.exp_pos y
  rw [Ideal.exp_coe, Ideal.log1p, ← EReal.coe_one, ← EReal.coe_add, Ideal.log_coe, if_neg (by linarith)]

/-- The float pattern of a sixteenth. -/
theorem ofBits_sixteenth : Ideal.ofBits FTy.f32 0x3D800000#32 = ((1 / 16 : ℝ) : EReal) := by
  simp [Ideal.ofBits, Ideal.ieee, -EReal.coe_mul]; norm_num

theorem lf_at (gts : FVec Ideal S128x2 .f32) (p : Fin 128) (x : ℝ) (h : gts (ix2 p 1) = (x : EReal)) :
    k0_pay45 (F := Ideal) gts (ix2 p 0) = (lsig x : EReal) := by
  pointwise [k0_pay45]
  rw [h, show (FloatOps.absf (F := Ideal) (φ := .f32) (x : EReal)) = max (x : EReal) (-(x : EReal)) from rfl, ← EReal.coe_neg, coe_max, ← abs_eq_max_neg,
    zero_sub, ← EReal.coe_neg, log1p_exp, ← EReal.coe_zero, ← EReal.coe_strictMono.monotone.map_min, ← EReal.coe_sub, lsig]

theorem ic_at (gts : FVec Ideal S128x2 .f32) (p : Fin 128) : k0_pay41 (F := Ideal) gts (ix2 p 0) = gts (ix2 p 0) := by
  pointwise [k0_pay41]

theorem q_at (x : FVec Ideal S128x256 .f32) (p : Fin 128) (d : Fin 256) (r : ℝ) (h : x (ix2 p d) = (r : EReal)) :
    k0_pay32 (F := Ideal) x (ix2 p d) = ((r * (1 / 16) : ℝ) : EReal) := by
  pointwise [k0_pay32]
  rw [h, ofBits_sixteenth, ← EReal.coe_mul]

/-- The operands' blocks of a point hold these reals, by head and time. -/
structure Blk (d : ℕ) (x4 x5 : FVec Ideal S256x1024 .f32) (x6 : FVec Ideal S256x2048 .f32) (x7 : FVec Ideal S1x4x256x2 .f32)
    (x8 : FVec Ideal S1x4x1x2 .f32) (q kk : Fin 4 → ℕ → Fin 256 → ℝ) (v : Fin 4 → ℕ → Fin 512 → ℝ) (fr g : Fin 4 → ℕ → ℝ) : Prop where
  q : ∀ (h : Fin 4) (τ : ℕ) (r : Fin 256) (x : Fin 256) (y : Fin 1024), τ < 256 → r.val = rho d τ → y.val = 256 * h.val + x.val →
    x4 (ix2 r y) = (q h τ x : EReal)
  k : ∀ (h : Fin 4) (τ : ℕ) (r : Fin 256) (x : Fin 256) (y : Fin 1024), τ < 256 → r.val = rho d τ → y.val = 256 * h.val + x.val →
    x5 (ix2 r y) = (kk h τ x : EReal)
  v : ∀ (h : Fin 4) (τ : ℕ) (r : Fin 256) (x : Fin 512) (y : Fin 2048), τ < 256 → r.val = rho d τ → y.val = 512 * h.val + x.val →
    x6 (ix2 r y) = (v h τ x : EReal)
  g : ∀ (h : Fin 4) (τ : ℕ) (r : Fin 256), τ < 256 → r.val = rho d τ → x7 (ix4 0 h r 0) + x8 (ix4 0 h 0 0) = (g h τ : EReal)
  f : ∀ (h : Fin 4) (τ : ℕ) (r : Fin 256), τ < 256 → r.val = rho d τ → x7 (ix4 0 h r 1) + x8 (ix4 0 h 0 1) = (fr h τ : EReal)

/-- The scratches hold the scan's state after `T` steps. -/
structure State (f g : Fin 4 → ℕ → ℝ) (kk : Fin 4 → ℕ → Fin 256 → ℝ) (v : Fin 4 → ℕ → Fin 512 → ℝ) (T : ℕ)
    (x13 : FVec Ideal S4x256x512 .f32) (x14 : FVec Ideal S4x1x256 .f32) (x15 : FVec Ideal S4x1x1 .f32) : Prop where
  C : ∀ h d x, x13 (ix3 h d x) = (acc (f h) (g h) (fun s => kk h s d * v h s x) T : EReal)
  n : ∀ h d, x14 (ix3 h 0 d) = (acc (f h) (g h) (fun s => kk h s d) T : EReal)
  m : ∀ h, x15 (ix3 h 0 0) = (M (f h) (g h) T : EReal)

/-- A load of a part, at an index. -/
theorem readAt_at {κ : Kind} {sp : Space} {s : Shape} {e : EltTy} (v : View sig κ sp s e) (X : v.ty.Contents (Elt Ideal))
    {off off' size : Fin s.rank → ℕ} (inb : ∀ a, off a + size a ≤ s.size a) (x : (Rect.unit off size inb).shape.Idx) (z : s.Idx)
    (heq : off = off') (hz : ∀ a, (z a).val = off' a + (x a).val) :
    v.readAt (Elt Ideal) (Rect.unit off size inb).toLoadRect X x = v.read (Elt Ideal) X z :=
  View.ld_unit_apply_of (v.read (Elt Ideal) X) off size inb x z (heq ▸ hz)

end Cert.Scan

end
-- ==== Proof.Cum.lean ====
/- A running sum along the last axis, as a window sum padded below: each entry is the sum of the entries up to it. -/
module

public import Idealize.ShloMosaic.Lib.Pipeline.ValueKit

@[expose] public section

noncomputable section

open Idealize.ShloMosaic Idealize.ShloMosaic.Pointwise

namespace Cert.Cum

/-- A fold of sums is the sum. -/
theorem foldl_add {N : ℕ} (y : Fin N → EReal) (v : EReal) : (List.finRange N).foldl (fun r n => r + y n) v = v + ∑ n, y n := by
  rw [Fin.sum_univ_def]
  generalize List.finRange N = l
  induction l generalizing v with
  | nil => simp
  | cons a l ih => rw [List.foldl_cons, ih, List.map_cons, List.sum_cons, add_assoc]

/-- The window that ends at `p` holds the entries up to `p`. -/
theorem sum_window (F : ℕ → EReal) (p : ℕ) (hp : p < 64) :
    (∑ w ∈ Finset.range 64, if 63 ≤ p + w then F (p + w - 63) else 0) = ∑ s ∈ Finset.range 64, if s ≤ p then F s else 0 := by
  rw [← Finset.sum_filter, ← Finset.sum_filter]
  refine Finset.sum_nbij' (fun w => p + w - 63) (fun s => 63 + s - p) ?_ ?_ ?_ ?_ ?_
  · intro w hw; simp only [Finset.mem_filter, Finset.mem_range] at hw ⊢; omega
  · intro w hw; simp only [Finset.mem_filter, Finset.mem_range] at hw ⊢; omega
  · intro w hw; simp only [Finset.mem_filter, Finset.mem_range] at hw ⊢; omega
  · intro w hw; simp only [Finset.mem_filter, Finset.mem_range] at hw ⊢; omega
  · intro w hw; rfl

/-- The running sum at an index. -/
theorem cumsum {A B : ℕ} (x : FVec Ideal ⟨3, ![A, B, 64]⟩ .f32) (init : FVec Ideal ⟨0, ![]⟩ .f32)
    (h : (⟨3, ![A, B, 64]⟩ : Shape).ReduceWindows ![1, 1, 64] ![1, 1, 1] ![0, 0, 63] ![0, 0, 0] ⟨3, ![A, B, 64]⟩) (hu : 0 < (⟨0, ![]⟩ : Shape).numel)
    (hi : init (Shape.Idx.first hu) = (0 : EReal)) (a : Fin A) (b : Fin B) (p : Fin 64) :
    Host.reduceWindowAdd ![1, 1, 64] ![1, 1, 1] ![0, 0, 63] ![0, 0, 0] x init h hu (ix3 a b p)
      = (∑ s : Fin 64, if s ≤ p then x (ix3 a b s) else 0 : EReal) := by
  have hp := p.isLt
  have ha := a.isLt
  have hb := b.isLt
  show Host.reduceWindow (· + ·) ![1, 1, 64] ![1, 1, 1] ![0, 0, 63] ![0, 0, 0] x (fun _ : (⟨0, ![]⟩ : Shape).Idx => init (Shape.Idx.first hu)) h hu (ix3 a b p) = _
  unfold Host.reduceWindow
  refine (foldl_add _ _).trans ?_
  dsimp only
  rw [hi, zero_add]
  let W : Shape := ⟨3, ![1, 1, 64]⟩
  let F : ℕ → EReal := fun n => if hn : n < 64 then x (ix3 a b ⟨n, hn⟩) else 0
  refine (Finset.sum_congr rfl fun n _ => (?_ : _ = if 63 ≤ p.val + (W.rowMajor.symm n 2).val then F (p.val + (W.rowMajor.symm n 2).val - 63) else 0)).trans ?_
  · have h0 : (W.rowMajor.symm n 0).val = 0 := by have : (W.rowMajor.symm n 0).val < 1 := (W.rowMajor.symm n 0).isLt; omega
    have h1 : (W.rowMajor.symm n 1).val = 0 := by have : (W.rowMajor.symm n 1).val < 1 := (W.rowMajor.symm n 1).isLt; omega
    have h2 : (W.rowMajor.symm n 2).val < 64 := (W.rowMajor.symm n 2).isLt
    by_cases hc : 63 ≤ p.val + (W.rowMajor.symm n 2).val
    · rw [if_pos hc, dif_pos]
      · show _ = F _
        dsimp only [F]
        rw [dif_pos (by omega)]
        refine congrArg x (funext fun c => Fin.ext ?_)
        match c with
        | ⟨0, _⟩ => show a.val * 1 + (W.rowMajor.symm n 0).val - 0 = a.val; omega
        | ⟨1, _⟩ => show b.val * 1 + (W.rowMajor.symm n 1).val - 0 = b.val; omega
        | ⟨2, _⟩ => show p.val * 1 + (W.rowMajor.symm n 2).val - 63 = p.val + (W.rowMajor.symm n 2).val - 63; omega
      · intro c
        match c with
        | ⟨0, _⟩ => show 0 ≤ a.val * 1 + (W.rowMajor.symm n 0).val ∧ a.val * 1 + (W.rowMajor.symm n 0).val - 0 < A; omega
        | ⟨1, _⟩ => show 0 ≤ b.val * 1 + (W.rowMajor.symm n 1).val ∧ b.val * 1 + (W.rowMajor.symm n 1).val - 0 < B; omega
        | ⟨2, _⟩ => show 63 ≤ p.val * 1 + (W.rowMajor.symm n 2).val ∧ p.val * 1 + (W.rowMajor.symm n 2).val - 63 < 64; omega
    · rw [if_neg hc, dif_neg]
      intro hin
      have := (hin 2).1
      change 63 ≤ p.val * 1 + (W.rowMajor.symm n 2).val at this
      omega
  rw [Equiv.sum_comp W.rowMajor.symm (fun w : W.Idx => if 63 ≤ p.val + (w 2).val then F (p.val + (w 2).val - 63) else 0)]
  have e2 : (∑ w : W.Idx, if 63 ≤ p.val + (w 2).val then F (p.val + (w 2).val - 63) else 0)
      = ∑ w : Fin 64, if 63 ≤ p.val + w.val then F (p.val + w.val - 63) else 0 := by
    refine Fintype.sum_bijective (fun w : W.Idx => (w 2 : Fin 64)) ⟨fun u w huw => ?_, fun w => ⟨ix3 0 0 w, rfl⟩⟩ _ _ (fun w => rfl)
    funext c
    match c with
    | ⟨0, _⟩ => exact Fin.ext (by have h1 : (u 0).val < 1 := (u 0).isLt; have h2 : (w 0).val < 1 := (w 0).isLt; show (u 0).val = (w 0).val; omega)
    | ⟨1, _⟩ => exact Fin.ext (by have h1 : (u 1).val < 1 := (u 1).isLt; have h2 : (w 1).val < 1 := (w 1).isLt; show (u 1).val = (w 1).val; omega)
    | ⟨2, _⟩ => exact huw
  rw [e2, Fin.sum_univ_eq_sum_range (fun w => if 63 ≤ p.val + w then F (p.val + w - 63) else 0) 64, sum_window F p.val hp,
    ← Fin.sum_univ_eq_sum_range (fun s => if s ≤ p.val then F s else 0) 64]
  refine Finset.sum_congr rfl fun s _ => ?_
  by_cases hs : s ≤ p
  · rw [if_pos hs, if_pos (show s.val ≤ p.val from hs)]; dsimp only [F]; rw [dif_pos s.isLt]
  · rw [if_neg hs, if_neg (show ¬ s.val ≤ p.val from hs)]

end Cert.Cum

end
-- ==== Proof.Ref.lean ====
/- One trip of the reference's scan, over the reals: a chunk of 64 steps of all heads takes the closed form on by 64 steps. -/
module

public import proofs.«01_k».proof.Proof.Gen.ReferenceIdeal.Run
public import proofs.«01_k».proof.Proof.Math
public import proofs.«01_k».proof.Proof.Cum
public import Idealize.ShloMosaic.Lib.Pipeline.ValueKit

@[expose] public section

set_option maxRecDepth 16384

noncomputable section

namespace Cert.Ref

open Cert.ReferenceIdeal Cert.ReferenceIdeal.Gen Cert.ReferenceIdeal.Value Cert.Seq
open Idealize.ShloMosaic Idealize.ShloMosaic.TcCoe Idealize.ShloMosaic.Tactic Idealize.ShloMosaic.Pointwise Idealize.ShloMosaic.StableHlo

/-! ## The arrays that a trip reads -/

abbrev Q (V : Valuation τ sig (Elt Ideal)) : FVec Ideal S4x64x8x64x256 .f32 := V (Proc.devRef .tc main_v56_0)
abbrev K (V : Valuation τ sig (Elt Ideal)) : FVec Ideal S4x64x8x64x256 .f32 := V (Proc.devRef .tc main_v56_1)
abbrev W (V : Valuation τ sig (Elt Ideal)) : FVec Ideal S4x64x8x64x512 .f32 := V (Proc.devRef .tc main_v56_2)
abbrev G (V : Valuation τ sig (Elt Ideal)) : FVec Ideal S4x64x8x64 .f32 := V (Proc.devRef .tc main_v56_3)
abbrev Fg (V : Valuation τ sig (Elt Ideal)) : FVec Ideal S4x64x8x64 .f32 := V (Proc.devRef .tc main_v56_4)
abbrev Msk (V : Valuation τ sig (Elt Ideal)) : IVec S64x64 1 := V (Proc.devRef .tc main_v56_5)
abbrev Ctr (V : Valuation τ sig (Elt Ideal)) : IVec S_ 32 := V (Proc.devRef .tc main_v56_6)
abbrev C7 (V : Valuation τ sig (Elt Ideal)) : FVec Ideal S64x8x256x512 .f32 := V (Proc.devRef .tc main_v56_7)
abbrev N8 (V : Valuation τ sig (Elt Ideal)) : FVec Ideal S64x8x256 .f32 := V (Proc.devRef .tc main_v56_8)
abbrev M9 (V : Valuation τ sig (Elt Ideal)) : FVec Ideal S64x8 .f32 := V (Proc.devRef .tc main_v56_9)
abbrev O10 (V : Valuation τ sig (Elt Ideal)) : FVec Ideal S4x64x8x64x512 .f32 := V (Proc.devRef .tc main_v56_10)

/-- The values after `n` chunks: the inputs as reals by time, the state and the outputs so far in closed form. -/
structure Inv (q k : Fin 64 → Fin 8 → ℕ → Fin 256 → ℝ) (v : Fin 64 → Fin 8 → ℕ → Fin 512 → ℝ) (g f : Fin 64 → Fin 8 → ℕ → ℝ) (n : ℕ)
    (V : Valuation τ sig (Elt Ideal)) : Prop where
  qA : ∀ j b h s d, Q V (ix5 j b h s d) = ((q b h (64 * j.val + s.val) d : ℝ) : EReal)
  kA : ∀ j b h s d, K V (ix5 j b h s d) = ((k b h (64 * j.val + s.val) d : ℝ) : EReal)
  vA : ∀ j b h s x, W V (ix5 j b h s x) = ((v b h (64 * j.val + s.val) x : ℝ) : EReal)
  gA : ∀ j b h s, G V (ix4 j b h s) = ((g b h (64 * j.val + s.val) : ℝ) : EReal)
  fA : ∀ j b h s, Fg V (ix4 j b h s) = ((f b h (64 * j.val + s.val) : ℝ) : EReal)
  mask : ∀ p s, Msk V (ix2 p s) = if s ≤ p then 1#1 else 0#1
  ctr : Ctr V = fun _ => BitVec.ofNat 32 n
  CA : ∀ b h d x, C7 V (ix4 b h d x) = ((acc (f b h) (g b h) (fun s => k b h s d * v b h s x) (64 * n) : ℝ) : EReal)
  nA : ∀ b h d, N8 V (ix3 b h d) = ((acc (f b h) (g b h) (fun s => k b h s d) (64 * n) : ℝ) : EReal)
  mA : ∀ b h, M9 V (ix2 b h) = ((M (f b h) (g b h) (64 * n) : ℝ) : EReal)
  oA : ∀ (j : Fin 4) b h p x, j.val < n → O10 V (ix5 j b h p x)
    = ((out (f b h) (g b h) (q b h (64 * j.val + p.val)) (k b h) (fun s => v b h s x) (64 * j.val + p.val + 1) : ℝ) : EReal)

section

variable (V : Valuation τ sig (Elt Ideal)) (n : Fin 4) (hc : Ctr V = fun _ => BitVec.ofNat 32 n.val)

theorem toInt_small (n : Fin 4) : BitVec.toInt (BitVec.ofNat 32 n.val) = (n.val : ℤ) := by revert n; decide

include hc in
theorem r84 (b : Fin 64) (h : Fin 8) (s : Fin 64) (d : Fin 256) : (res_main_while0b_v84 V : FVec Ideal S64x8x64x256 .f32) (ix4 b h s d) = Q V (ix5 n b h s d) := by
  pointwise [res_main_while0b_v84]
  refine congrArg (Q V) (funext fun c => Fin.ext ?_)
  match c with
  | ⟨0, _⟩ =>
    exact Host.clampedStart_of_le (s := S4x64x8x64x256) (t := S1x64x8x64x256) rfl (fun k => BitVec.toInt ((![Ctr V, constantI S_ 32 0#32, constantI S_ 32 0#32, constantI S_ 32 0#32, constantI S_ 32 0#32] : Fin 5 → IVec S_ 32) k (Shape.Idx.first h_S_))) 0 n.val
      (by show BitVec.toInt (Ctr V _) = _; rw [hc]; exact toInt_small n) (by show n.val + 1 ≤ 4; omega)
  | ⟨1, _⟩ => exact (congrArg (· + b.val) (Host.clampedStart_of_le _ _ _ 0 rfl (by decide))).trans (Nat.zero_add _)
  | ⟨2, _⟩ => exact (congrArg (· + h.val) (Host.clampedStart_of_le _ _ _ 0 rfl (by decide))).trans (Nat.zero_add _)
  | ⟨3, _⟩ => exact (congrArg (· + s.val) (Host.clampedStart_of_le _ _ _ 0 rfl (by decide))).trans (Nat.zero_add _)
  | ⟨4, _⟩ => exact (congrArg (· + d.val) (Host.clampedStart_of_le _ _ _ 0 rfl (by decide))).trans (Nat.zero_add _)

include hc in
theorem r85 (b : Fin 64) (h : Fin 8) (s : Fin 64) (d : Fin 256) : (res_main_while0b_v85 V : FVec Ideal S64x8x64x256 .f32) (ix4 b h s d) = K V (ix5 n b h s d) := by
  pointwise [res_main_while0b_v85]
  refine congrArg (K V) (funext fun c => Fin.ext ?_)
  match c with
  | ⟨0, _⟩ =>
    exact Host.clampedStart_of_le (s := S4x64x8x64x256) (t := S1x64x8x64x256) rfl (fun k => BitVec.toInt ((![Ctr V, constantI S_ 32 0#32, constantI S_ 32 0#32, constantI S_ 32 0#32, constantI S_ 32 0#32] : Fin 5 → IVec S_ 32) k (Shape.Idx.first h_S_))) 0 n.val
      (by show BitVec.toInt (Ctr V _) = _; rw [hc]; exact toInt_small n) (by show n.val + 1 ≤ 4; omega)
  | ⟨1, _⟩ => exact (congrArg (· + b.val) (Host.clampedStart_of_le _ _ _ 0 rfl (by decide))).trans (Nat.zero_add _)
  | ⟨2, _⟩ => exact (congrArg (· + h.val) (Host.clampedStart_of_le _ _ _ 0 rfl (by decide))).trans (Nat.zero_add _)
  | ⟨3, _⟩ => exact (congrArg (· + s.val) (Host.clampedStart_of_le _ _ _ 0 rfl (by decide))).trans (Nat.zero_add _)
  | ⟨4, _⟩ => exact (congrArg (· + d.val) (Host.clampedStart_of_le _ _ _ 0 rfl (by decide))).trans (Nat.zero_add _)

include hc in
theorem r86 (b : Fin 64) (h : Fin 8) (s : Fin 64) (x : Fin 512) : (res_main_while0b_v86 V : FVec Ideal S64x8x64x512 .f32) (ix4 b h s x) = W V (ix5 n b h s x) := by
  pointwise [res_main_while0b_v86]
  refine congrArg (W V) (funext fun c => Fin.ext ?_)
  match c with
  | ⟨0, _⟩ =>
    exact Host.clampedStart_of_le (s := S4x64x8x64x512) (t := S1x64x8x64x512) rfl (fun k => BitVec.toInt ((![Ctr V, constantI S_ 32 0#32, constantI S_ 32 0#32, constantI S_ 32 0#32, constantI S_ 32 0#32] : Fin 5 → IVec S_ 32) k (Shape.Idx.first h_S_))) 0 n.val
      (by show BitVec.toInt (Ctr V _) = _; rw [hc]; exact toInt_small n) (by show n.val + 1 ≤ 4; omega)
  | ⟨1, _⟩ => exact (congrArg (· + b.val) (Host.clampedStart_of_le _ _ _ 0 rfl (by decide))).trans (Nat.zero_add _)
  | ⟨2, _⟩ => exact (congrArg (· + h.val) (Host.clampedStart_of_le _ _ _ 0 rfl (by decide))).trans (Nat.zero_add _)
  | ⟨3, _⟩ => exact (congrArg (· + s.val) (Host.clampedStart_of_le _ _ _ 0 rfl (by decide))).trans (Nat.zero_add _)
  | ⟨4, _⟩ => exact (congrArg (· + x.val) (Host.clampedStart_of_le _ _ _ 0 rfl (by decide))).trans (Nat.zero_add _)

include hc in
theorem r87 (b : Fin 64) (h : Fin 8) (s : Fin 64) : (res_main_while0b_v87 V : FVec Ideal S64x8x64 .f32) (ix3 b h s) = G V (ix4 n b h s) := by
  pointwise [res_main_while0b_v87]
  refine congrArg (G V) (funext fun c => Fin.ext ?_)
  match c with
  | ⟨0, _⟩ =>
    exact Host.clampedStart_of_le (s := S4x64x8x64) (t := S1x64x8x64) rfl (fun k => BitVec.toInt ((![Ctr V, constantI S_ 32 0#32, constantI S_ 32 0#32, constantI S_ 32 0#32] : Fin 4 → IVec S_ 32) k (Shape.Idx.first h_S_))) 0 n.val
      (by show BitVec.toInt (Ctr V _) = _; rw [hc]; exact toInt_small n) (by show n.val + 1 ≤ 4; omega)
  | ⟨1, _⟩ => exact (congrArg (· + b.val) (Host.clampedStart_of_le _ _ _ 0 rfl (by decide))).trans (Nat.zero_add _)
  | ⟨2, _⟩ => exact (congrArg (· + h.val) (Host.clampedStart_of_le _ _ _ 0 rfl (by decide))).trans (Nat.zero_add _)
  | ⟨3, _⟩ => exact (congrArg (· + s.val) (Host.clampedStart_of_le _ _ _ 0 rfl (by decide))).trans (Nat.zero_add _)

/-- The chunk's log forget gates. -/
abbrev lf (V : Valuation τ sig (Elt Ideal)) : FVec Ideal S64x8x64 .f32 :=
  shapeCast S64x8x64 (Host.dynamicSlice S1x64x8x64 (Fg V) (fun k => BitVec.toInt ((![Ctr V, constantI S_ 32 0#32, constantI S_ 32 0#32, constantI S_ 32 0#32] : Fin 4 → IVec S_ 32) k (Shape.Idx.first h_S_))) sliceFits_S4x64x8x64_S1x64x8x64) shapeCasts_S1x64x8x64_S64x8x64

include hc in
theorem rlf (b : Fin 64) (h : Fin 8) (s : Fin 64) : (lf V : FVec Ideal S64x8x64 .f32) (ix3 b h s) = Fg V (ix4 n b h s) := by
  pointwise [lf]
  refine congrArg (Fg V) (funext fun c => Fin.ext ?_)
  match c with
  | ⟨0, _⟩ =>
    exact Host.clampedStart_of_le (s := S4x64x8x64) (t := S1x64x8x64) rfl (fun k => BitVec.toInt ((![Ctr V, constantI S_ 32 0#32, constantI S_ 32 0#32, constantI S_ 32 0#32] : Fin 4 → IVec S_ 32) k (Shape.Idx.first h_S_))) 0 n.val
      (by show BitVec.toInt (Ctr V _) = _; rw [hc]; exact toInt_small n) (by show n.val + 1 ≤ 4; omega)
  | ⟨1, _⟩ => exact (congrArg (· + b.val) (Host.clampedStart_of_le _ _ _ 0 rfl (by decide))).trans (Nat.zero_add _)
  | ⟨2, _⟩ => exact (congrArg (· + h.val) (Host.clampedStart_of_le _ _ _ 0 rfl (by decide))).trans (Nat.zero_add _)
  | ⟨3, _⟩ => exact (congrArg (· + s.val) (Host.clampedStart_of_le _ _ _ 0 rfl (by decide))).trans (Nat.zero_add _)

/-- The running sum of the chunk's log forget gates. -/
theorem r89 (b : Fin 64) (h : Fin 8) (p : Fin 64) : (res_main_while0b_v89 V : FVec Ideal S64x8x64 .f32) (ix3 b h p)
    = (∑ s : Fin 64, if s ≤ p then lf V (ix3 b h s) else 0 : EReal) :=
  Cert.Cum.cumsum (lf V) _ reduceWindows_S64x8x64_S64x8x64_w1s1p0_0_w1s1p0_0_w64s1p63_0 h_S_ (by
    show Ideal.ofBits .f32 0x00000000#32 = (0 : EReal)
    simp) b h p

end

abbrev a84 (V : Valuation τ sig (Elt Ideal)) : FVec Ideal S64x8x64x256 .f32 := res_main_while0b_v84 V
abbrev a86 (V : Valuation τ sig (Elt Ideal)) : FVec Ideal S64x8x64x512 .f32 := res_main_while0b_v86 V
abbrev a103 (V : Valuation τ sig (Elt Ideal)) : FVec Ideal S64x8x64 .f32 := res_main_while0b_v103 V
abbrev a109 (V : Valuation τ sig (Elt Ideal)) : FVec Ideal S64x8x64x64 .f32 := res_main_while0b_v109 V
abbrev a111 (V : Valuation τ sig (Elt Ideal)) : FVec Ideal S64x8x64 .f32 := res_main_while0b_v111 V

/-! ## Their values, in closed form -/

/-- The pattern of minus infinity. -/
theorem bot_bits : Ideal.ofBits .f32 0xFF800000#32 = (⊥ : EReal) := by simp [Ideal.ofBits, Ideal.ieee]

section

variable {q k : Fin 64 → Fin 8 → ℕ → Fin 256 → ℝ} {v : Fin 64 → Fin 8 → ℕ → Fin 512 → ℝ} {g f : Fin 64 → Fin 8 → ℕ → ℝ} {n : Fin 4}
  {V : Valuation τ sig (Elt Ideal)} (hI : Inv q k v g f n.val V)
include hI

theorem x84 (b : Fin 64) (h : Fin 8) (s : Fin 64) (d : Fin 256) : (res_main_while0b_v84 V : FVec Ideal S64x8x64x256 .f32) (ix4 b h s d)
    = ((q b h (64 * n.val + s.val) d : ℝ) : EReal) := (r84 V n hI.ctr b h s d).trans (hI.qA n b h s d)

theorem x85 (b : Fin 64) (h : Fin 8) (s : Fin 64) (d : Fin 256) : (res_main_while0b_v85 V : FVec Ideal S64x8x64x256 .f32) (ix4 b h s d)
    = ((k b h (64 * n.val + s.val) d : ℝ) : EReal) := (r85 V n hI.ctr b h s d).trans (hI.kA n b h s d)

theorem x86 (b : Fin 64) (h : Fin 8) (s : Fin 64) (x : Fin 512) : (res_main_while0b_v86 V : FVec Ideal S64x8x64x512 .f32) (ix4 b h s x)
    = ((v b h (64 * n.val + s.val) x : ℝ) : EReal) := (r86 V n hI.ctr b h s x).trans (hI.vA n b h s x)

theorem x87 (b : Fin 64) (h : Fin 8) (s : Fin 64) : (res_main_while0b_v87 V : FVec Ideal S64x8x64 .f32) (ix3 b h s)
    = ((g b h (64 * n.val + s.val) : ℝ) : EReal) := (r87 V n hI.ctr b h s).trans (hI.gA n b h s)

theorem x89 (b : Fin 64) (h : Fin 8) (p : Fin 64) : (res_main_while0b_v89 V : FVec Ideal S64x8x64 .f32) (ix3 b h p)
    = ((B (f b h) (64 * n.val + p.val + 1) - B (f b h) (64 * n.val) : ℝ) : EReal) := by
  refine Eq.trans ((r89 V b h p).trans ?_) (sum_row (f b h) (Equiv.refl (Fin 64)) (64 * n.val) p)
  exact Finset.sum_congr (M := EReal) rfl fun s _ => congrArg (fun z : EReal => if s ≤ p then z else 0) ((rlf V n hI.ctr b h s).trans (hI.fA n b h s))

theorem x98 (b : Fin 64) (h : Fin 8) (p s : Fin 64) : (res_main_while0b_v98 V : FVec Ideal S64x8x64x64 .f32) (ix4 b h p s)
    = (if s ≤ p then ((B (f b h) (64 * n.val + p.val + 1) - B (f b h) (64 * n.val) : ℝ) : EReal)
        - ((B (f b h) (64 * n.val + s.val + 1) - B (f b h) (64 * n.val) : ℝ) : EReal) + ((g b h (64 * n.val + s.val) : ℝ) : EReal) else ⊥ : EReal) := by
  pointwise [res_main_while0b_v98]
  have e1 := x89 hI b h p
  have e2 := x89 hI b h s
  have e3 := x87 hI b h s
  have e4 := hI.mask p s
  refine (congrArg (fun z : BitVec 1 => Scalar.select z _ _) e4).trans ?_
  by_cases hs : s ≤ p
  · rw [if_pos hs, if_pos hs, ← e1, ← e2, ← e3]; rfl
  · rw [if_neg hs, if_neg hs]
    exact bot_bits

theorem x101 (b : Fin 64) (h : Fin 8) (p : Fin 64) : (res_main_while0b_v101 V : FVec Ideal S64x8x64 .f32) (ix3 b h p)
    = ((B (f b h) (64 * n.val + p.val + 1) - B (f b h) (64 * n.val) : ℝ) : EReal) + ((M (f b h) (g b h) (64 * n.val) : ℝ) : EReal) := by
  pointwise [res_main_while0b_v101]
  exact congrArg₂ (fun y z : EReal => y + z) (x89 hI b h p) (hI.mA b h)

theorem x103 (b : Fin 64) (h : Fin 8) (p : Fin 64) : (res_main_while0b_v103 V : FVec Ideal S64x8x64 .f32) (ix3 b h p)
    = ((M (f b h) (g b h) (64 * n.val + p.val + 1) : ℝ) : EReal) := by
  refine Eq.trans ?_ (max_row (f b h) (g b h) (Equiv.refl (Fin 64)) (64 * n.val) p)
  refine congrArg₂ (fun y z : EReal => max y z) (x101 hI b h p) ?_
  have e : (Host.reduce FloatOps.maximumf (res_main_while0b_v98 V : FVec Ideal S64x8x64x64 .f32) (constant S_ .f32 0xFF800000#32) reducesTo_S64x8x64x64_S64x8x64_d3 h_S_ : FVec Ideal S64x8x64 .f32) (ix3 b h p)
      = (Finset.univ : Finset (Fin 64)).fold max (Ideal.ofBits .f32 0xFF800000#32) (fun s => (res_main_while0b_v98 V : FVec Ideal S64x8x64x64 .f32) (ix4 b h p s)) := by
    pointwise
    exact Shape.ReducesTo.fold_fiber_r4_a3 _ _ _ _ _
  refine e.trans ?_
  rw [bot_bits]
  exact congrArg (fun F : Fin 64 → EReal => Finset.univ.fold max ⊥ F) (funext fun s => x98 hI b h p s)

theorem x109 (b : Fin 64) (h : Fin 8) (p s : Fin 64) : (res_main_while0b_v109 V : FVec Ideal S64x8x64x64 .f32) (ix4 b h p s)
    = (((∑ d, q b h (64 * n.val + p.val) d * k b h (64 * n.val + s.val) d)
        * (if s ≤ p then wt (f b h) (g b h) (64 * n.val + p.val + 1) (64 * n.val + s.val) else 0) : ℝ) : EReal) := by
  pointwise [res_main_while0b_v109]
  refine Eq.trans ?_ (score (q b h (64 * n.val + p.val)) (k b h (64 * n.val + s.val)) _)
  refine congrArg₂ (fun y z : EReal => y * z) ?_ ?_
  · exact Finset.sum_congr rfl fun d _ => congrArg₂ (fun y z : EReal => y * z) (x84 hI b h p d) (x85 hI b h s d)
  · exact (congrArg₂ (fun y z : EReal => Ideal.exp (y - z)) (x98 hI b h p s) (x103 hI b h p)).trans
      (exp_row (f b h) (g b h) (Equiv.refl (Fin 64)) (64 * n.val) p s)

theorem x111 (b : Fin 64) (h : Fin 8) (p : Fin 64) : (res_main_while0b_v111 V : FVec Ideal S64x8x64 .f32) (ix3 b h p)
    = ((dec (f b h) (g b h) (64 * n.val) (64 * n.val + p.val + 1) : ℝ) : EReal) := by
  pointwise [res_main_while0b_v111]
  exact (congrArg₂ (fun y z : EReal => Ideal.exp (y - z)) (x101 hI b h p) (x103 hI b h p)).trans (exp_dec (f b h) (g b h) _ _)

theorem x130 (b : Fin 64) (h : Fin 8) : (res_main_while0b_v130 V : FVec Ideal S64x8 .f32) (ix2 b h)
    = ((B (f b h) (64 * n.val + 64) - B (f b h) (64 * n.val) : ℝ) : EReal) := by
  pointwise [res_main_while0b_v130]
  exact x89 hI b h 63

theorem x134 (b : Fin 64) (h : Fin 8) (s : Fin 64) : (res_main_while0b_v134 V : FVec Ideal S64x8x64 .f32) (ix3 b h s)
    = ((B (f b h) (64 * n.val + 64) - B (f b h) (64 * n.val) : ℝ) : EReal)
        - ((B (f b h) (64 * n.val + s.val + 1) - B (f b h) (64 * n.val) : ℝ) : EReal) + ((g b h (64 * n.val + s.val) : ℝ) : EReal) := by
  pointwise [res_main_while0b_v134]
  rw [← x130 hI b h, ← x89 hI b h s, ← x87 hI b h s]

theorem x137 (b : Fin 64) (h : Fin 8) : (res_main_while0b_v137 V : FVec Ideal S64x8 .f32) (ix2 b h)
    = ((M (f b h) (g b h) (64 * n.val + 64) : ℝ) : EReal) := by
  refine Eq.trans ?_ (max_chunk (f b h) (g b h) (Equiv.refl (Fin 64)) (64 * n.val))
  refine congrArg₂ (fun y z : EReal => max y z) (congrArg₂ (fun y z : EReal => y + z) (x130 hI b h) (hI.mA b h)) ?_
  have e : (Host.reduce FloatOps.maximumf (res_main_while0b_v134 V : FVec Ideal S64x8x64 .f32) (constant S_ .f32 0xFF800000#32) reducesTo_S64x8x64_S64x8_d2 h_S_ : FVec Ideal S64x8 .f32) (ix2 b h)
      = (Finset.univ : Finset (Fin 64)).fold max (Ideal.ofBits .f32 0xFF800000#32) (fun s => (res_main_while0b_v134 V : FVec Ideal S64x8x64 .f32) (ix3 b h s)) := by
    pointwise
    exact Shape.ReducesTo.fold_fiber_r3_a2 _ _ _ _ _
  refine e.trans ?_
  rw [bot_bits]
  exact congrArg (fun F : Fin 64 → EReal => Finset.univ.fold max ⊥ F) (funext fun s => x134 hI b h s)

theorem x140 (b : Fin 64) (h : Fin 8) : (res_main_while0b_v140 V : FVec Ideal S64x8 .f32) (ix2 b h)
    = ((dec (f b h) (g b h) (64 * n.val) (64 * n.val + 64) : ℝ) : EReal) := by
  pointwise [res_main_while0b_v140]
  refine Eq.trans ?_ (exp_dec (f b h) (g b h) _ _)
  rw [← x130 hI b h, ← x137 hI b h, ← hI.mA b h]

theorem x147 (b : Fin 64) (h : Fin 8) (s : Fin 64) (d : Fin 256) : (res_main_while0b_v147 V : FVec Ideal S64x8x64x256 .f32) (ix4 b h s d)
    = ((k b h (64 * n.val + s.val) d : ℝ) : EReal) * ((wt (f b h) (g b h) (64 * n.val + 64) (64 * n.val + s.val) : ℝ) : EReal) := by
  pointwise [res_main_while0b_v147]
  exact congrArg₂ (fun y z : EReal => y * z) (x85 hI b h s d)
    ((congrArg₂ (fun y z : EReal => Ideal.exp (y - z)) (x134 hI b h s) (x137 hI b h)).trans
      (exp_chunk (f b h) (g b h) (Equiv.refl (Fin 64)) (64 * n.val) s))

theorem y7 (b : Fin 64) (h : Fin 8) (d : Fin 256) (x : Fin 512) : (step_main_v56_7 V : FVec Ideal S64x8x256x512 .f32) (ix4 b h d x)
    = ((acc (f b h) (g b h) (fun s => k b h s d * v b h s x) (64 * n.val + 64) : ℝ) : EReal) := by
  pointwise [step_main_v56_7, id_eq]
  refine Eq.trans ?_ (mem_chunk (f b h) (g b h) (Equiv.refl (Fin 64)) (fun s => k b h s d) (fun s => v b h s x) (64 * n.val))
  exact congrArg₂ (fun y z : EReal => y + z) (congrArg₂ (fun y z : EReal => y * z) (x140 hI b h) (hI.CA b h d x))
    (Finset.sum_congr (M := EReal) rfl fun s _ => congrArg₂ (fun y z : EReal => y * z) (x147 hI b h s d) (x86 hI b h s x))

theorem y8 (b : Fin 64) (h : Fin 8) (d : Fin 256) : (step_main_v56_8 V : FVec Ideal S64x8x256 .f32) (ix3 b h d)
    = ((acc (f b h) (g b h) (fun s => k b h s d) (64 * n.val + 64) : ℝ) : EReal) := by
  pointwise [step_main_v56_8, id_eq]
  refine Eq.trans ?_ (nrm_chunk (f b h) (g b h) (Equiv.refl (Fin 64)) (fun s => k b h s d) (64 * n.val))
  exact congrArg₂ (fun y z : EReal => y + z) (congrArg₂ (fun y z : EReal => y * z) (x140 hI b h) (hI.nA b h d))
    (Finset.sum_congr (M := EReal) rfl fun s _ => x147 hI b h s d)

omit hI in
/-- The chunk's outputs, as a trip computes them. -/
def blkOut (V : Valuation τ sig (Elt Ideal)) : FVec Ideal S64x8x64x512 .f32 :=
  Host.divf (addf (Host.dotGeneral dot_S64x8x64x64_S64x8x64x512_S64x8x64x512_3_2_2_3_01_01 none (a109 V) (a86 V)) (mulf (broadcastInDim S64x8x64x512 ![0, 1, 2, 3] bcast_S64x8x64x1_S64x8x64x512_0_1_2_3 (broadcastInDim S64x8x64x1 ![0, 1, 2] bcast_S64x8x64_S64x8x64x1_0_1_2 (a111 V))) (Host.dotGeneral dot_S64x8x64x256_S64x8x256x512_S64x8x64x512_3_2_2_3_01_01 none (a84 V) (C7 V)))) (broadcastInDim S64x8x64x512 ![0, 1, 2, 3] bcast_S64x8x64x1_S64x8x64x512_0_1_2_3 (broadcastInDim S64x8x64x1 ![0, 1, 2] bcast_S64x8x64_S64x8x64x1_0_1_2 (maximumf (Host.absf (addf (Host.reduceAdd (a109 V) (constant S_ .f32 0x00000000#32) reducesTo_S64x8x64x64_S64x8x64_d3 h_S_) (mulf (a111 V) (Host.dotGeneral dot_S64x8x64x256_S64x8x256_S64x8x64_3_2_2_n_01_01 none (a84 V) (N8 V))))) (Host.exp (Host.negf (a103 V))))))

theorem xnum (b : Fin 64) (h : Fin 8) (p : Fin 64) (x : Fin 512) :
    (∑ s : Fin 64, (a109 V) (ix4 b h p s) * (a86 V) (ix4 b h s x)
      + (a111 V) (ix3 b h p) * ∑ d : Fin 256, (a84 V) (ix4 b h p d) * C7 V (ix4 b h d x) : EReal)
    = ((∑ d, q b h (64 * n.val + p.val) d * acc (f b h) (g b h) (fun s => k b h s d * v b h s x) (64 * n.val + p.val + 1) : ℝ) : EReal) := by
  refine Eq.trans ?_ (num_row (f b h) (g b h) (Equiv.refl (Fin 64)) (q b h (64 * n.val + p.val)) (k b h) (fun s => v b h s x) (64 * n.val) p)
  exact congrArg₂ (fun y z : EReal => y + z)
    (Finset.sum_congr (M := EReal) rfl fun s _ => congrArg₂ (fun y z : EReal => y * z) (x109 hI b h p s) (x86 hI b h s x))
    (congrArg₂ (fun y z : EReal => y * z) (x111 hI b h p)
      (Finset.sum_congr (M := EReal) rfl fun d _ => congrArg₂ (fun y z : EReal => y * z) (x84 hI b h p d) (hI.CA b h d x)))

theorem xden (b : Fin 64) (h : Fin 8) (p : Fin 64) :
    (∑ s : Fin 64, (a109 V) (ix4 b h p s)
      + (a111 V) (ix3 b h p) * ∑ d : Fin 256, (a84 V) (ix4 b h p d) * N8 V (ix3 b h d) : EReal)
    = ((∑ d, q b h (64 * n.val + p.val) d * acc (f b h) (g b h) (fun s => k b h s d) (64 * n.val + p.val + 1) : ℝ) : EReal) := by
  refine Eq.trans ?_ (den_row (f b h) (g b h) (Equiv.refl (Fin 64)) (q b h (64 * n.val + p.val)) (k b h) (64 * n.val) p)
  exact congrArg₂ (fun y z : EReal => y + z)
    (Finset.sum_congr (M := EReal) rfl fun s _ => x109 hI b h p s)
    (congrArg₂ (fun y z : EReal => y * z) (x111 hI b h p)
      (Finset.sum_congr (M := EReal) rfl fun d _ => congrArg₂ (fun y z : EReal => y * z) (x84 hI b h p d) (hI.nA b h d)))

theorem xout (b : Fin 64) (h : Fin 8) (p : Fin 64) (x : Fin 512) : blkOut V (ix4 b h p x)
    = ((out (f b h) (g b h) (q b h (64 * n.val + p.val)) (k b h) (fun s => v b h s x) (64 * n.val + p.val + 1) : ℝ) : EReal) := by
  pointwise [blkOut]
  refine Eq.trans ?_ (div_row (f b h) (g b h) (q b h (64 * n.val + p.val)) (k b h) (fun s => v b h s x) (64 * n.val + p.val + 1))
  rw [← xnum hI b h p x, ← xden hI b h p, ← x103 hI b h p]
  rfl

theorem y10 (j : Fin 4) (b : Fin 64) (h : Fin 8) (p : Fin 64) (x : Fin 512) : (step_main_v56_10 V : FVec Ideal S4x64x8x64x512 .f32) (ix5 j b h p x)
    = if j = n then blkOut V (ix4 b h p x) else O10 V (ix5 j b h p x) := by
  have e0 := Host.clampedStart_of_le (s := S4x64x8x64x512) (t := S1x64x8x64x512) rfl (fun k => BitVec.toInt ((![Ctr V, constantI S_ 32 0#32, constantI S_ 32 0#32, constantI S_ 32 0#32, constantI S_ 32 0#32] : Fin 5 → IVec S_ 32) k (Shape.Idx.first h_S_))) 0 n.val
      (by show BitVec.toInt (Ctr V _) = _; rw [hI.ctr]; exact toInt_small n) (by show n.val + 1 ≤ 4; omega)
  have ez := fun (a : Fin 5) (ha : a ≠ 0) => Host.clampedStart_of_le (s := S4x64x8x64x512) (t := S1x64x8x64x512) rfl (fun k => BitVec.toInt ((![Ctr V, constantI S_ 32 0#32, constantI S_ 32 0#32, constantI S_ 32 0#32, constantI S_ 32 0#32] : Fin 5 → IVec S_ 32) k (Shape.Idx.first h_S_))) a 0
      (by match a, ha with | ⟨1, _⟩, _ => rfl | ⟨2, _⟩, _ => rfl | ⟨3, _⟩, _ => rfl | ⟨4, _⟩, _ => rfl) (by revert a; decide)
  show Host.dynamicUpdateSlice (O10 V) (broadcastInDim S1x64x8x64x512 ![1, 2, 3, 4] bcast_S64x8x64x512_S1x64x8x64x512_1_2_3_4 (blkOut V))
    (fun k => BitVec.toInt ((![Ctr V, constantI S_ 32 0#32, constantI S_ 32 0#32, constantI S_ 32 0#32, constantI S_ 32 0#32] : Fin 5 → IVec S_ 32) k (Shape.Idx.first h_S_))) updateFits_S4x64x8x64x512_S1x64x8x64x512 (ix5 j b h p x) = _
  rw [Host.dynamicUpdateSlice_apply]
  by_cases hj : j = n
  · rw [if_pos hj, dif_pos]
    · refine congrArg (blkOut V) (funext fun c => Fin.ext ?_)
      match c with
      | ⟨0, _⟩ => exact (congrArg (b.val - ·) (ez 1 (by decide))).trans (Nat.sub_zero _)
      | ⟨1, _⟩ => exact (congrArg (h.val - ·) (ez 2 (by decide))).trans (Nat.sub_zero _)
      | ⟨2, _⟩ => exact (congrArg (p.val - ·) (ez 3 (by decide))).trans (Nat.sub_zero _)
      | ⟨3, _⟩ => exact (congrArg (x.val - ·) (ez 4 (by decide))).trans (Nat.sub_zero _)
    · intro a
      match a with
      | ⟨0, _⟩ => rw [show (⟨0, by decide⟩ : Fin 5) = 0 from rfl, e0]; show n.val ≤ j.val ∧ j.val < n.val + 1; rw [hj]; omega
      | ⟨1, _⟩ => rw [ez ⟨1, by decide⟩ (by decide)]; show 0 ≤ b.val ∧ b.val < 0 + 64; omega
      | ⟨2, _⟩ => rw [ez ⟨2, by decide⟩ (by decide)]; show 0 ≤ h.val ∧ h.val < 0 + 8; omega
      | ⟨3, _⟩ => rw [ez ⟨3, by decide⟩ (by decide)]; show 0 ≤ p.val ∧ p.val < 0 + 64; omega
      | ⟨4, _⟩ => rw [ez ⟨4, by decide⟩ (by decide)]; show 0 ≤ x.val ∧ x.val < 0 + 512; omega
  · rw [if_neg hj, dif_neg]
    intro hin
    have h0 := hin 0
    rw [e0] at h0
    change n.val ≤ j.val ∧ j.val < n.val + 1 at h0
    exact hj (Fin.ext (by omega))

/-- A trip takes the values on by one chunk. -/
theorem next : Inv q k v g f (n.val + 1) (STEP V) where
  qA := by unfold Q; rw [STEP_main_v56_0]; exact hI.qA
  kA := by unfold K; rw [STEP_main_v56_1]; exact hI.kA
  vA := by unfold W; rw [STEP_main_v56_2]; exact hI.vA
  gA := by unfold G; rw [STEP_main_v56_3]; exact hI.gA
  fA := by unfold Fg; rw [STEP_main_v56_4]; exact hI.fA
  mask := by unfold Msk; rw [STEP_main_v56_5]; exact hI.mask
  ctr := by
    unfold Ctr; rw [STEP_main_v56_6]
    show (fun i => Ctr V i + 1#32) = _
    rw [hI.ctr]
    funext i
    show BitVec.ofNat 32 n.val + 1#32 = BitVec.ofNat 32 (n.val + 1)
    exact (BitVec.ofNat_add n.val 1).symm
  CA := by unfold C7; rw [STEP_main_v56_7]; exact y7 hI
  nA := by unfold N8; rw [STEP_main_v56_8]; exact y8 hI
  mA := by unfold M9; rw [STEP_main_v56_9]; exact x137 hI
  oA := by
    unfold O10; rw [STEP_main_v56_10]
    intro j b h p x hj
    refine (y10 hI j b h p x).trans ?_
    by_cases e : j = n
    · rw [if_pos e, e]; exact xout hI b h p x
    · rw [if_neg e]; exact hI.oA j b h p x (by have : j.val ≠ n.val := fun h' => e (Fin.ext h'); omega)

end

end Cert.Ref

end
-- ==== Proof.Data.lean ====
/- The queries, keys, values and gates of a direction of the mLSTM as real numbers by time, read from the three inputs of the scan. -/
module

public import proofs.«01_k».proof.Proof.Rows
public import proofs.«01_k».proof.Proof.Ref

@[expose] public section

noncomputable section

namespace Cert.Data

open Cert.ReferenceIdeal Cert.ReferenceIdeal.Gen Cert.Scan
open Idealize.ShloMosaic Idealize.ShloMosaic.Pointwise

variable (a0 : FVec Ideal S8192x4096 .f32) (a1 : FVec Ideal S16384x12320 .f32) (a2 : FVec Ideal S2x2x8 .f32)

/-- The row of time `τ` of example `bb` in direction `d`. -/
def row (bb : Fin 32) (d τ : ℕ) : ℕ := (256 * bb.val + rho d τ) % 8192

theorem row_lt (bb : Fin 32) (d τ : ℕ) : row bb d τ < 8192 := Nat.mod_lt _ (by norm_num)

theorem rho_lt (d τ : ℕ) (hτ : τ < 256) : rho d τ < 256 := by
  unfold rho; split <;> omega

theorem row_of (bb : Fin 32) (d τ : ℕ) (hτ : τ < 256) : row bb d τ = 256 * bb.val + rho d τ :=
  Nat.mod_eq_of_lt (by have := rho_lt d τ hτ; have := bb.isLt; omega)

/-- The queries before their scale. -/
def qs (bb : Fin 32) (d : ℕ) (h : Fin 8) (τ : ℕ) (x : Fin 256) : ℝ := (a0 (ix2 ⟨row bb d τ, row_lt bb d τ⟩ ⟨256 * h.val + x.val, by omega⟩)).toReal
/-- The keys. -/
def ks (bb : Fin 32) (d : ℕ) (h : Fin 8) (τ : ℕ) (x : Fin 256) : ℝ := (a0 (ix2 ⟨row bb d τ, row_lt bb d τ⟩ ⟨2048 + 256 * h.val + x.val, by omega⟩)).toReal
/-- The values. -/
def vs (bb : Fin 32) (d : ℕ) (h : Fin 8) (τ : ℕ) (x : Fin 512) : ℝ :=
  (a1 (ix2 ⟨row bb d τ, (row_lt bb d τ).trans (by norm_num)⟩ ⟨4096 + 512 * h.val + x.val, by omega⟩)).toReal
/-- The gates before the sigmoid: `e = 0` the input gate, `e = 1` the forget gate. -/
def gs (bb : Fin 32) (d : ℕ) (e : Fin 2) (h : Fin 8) (τ : ℕ) : ℝ :=
  (a1 (ix2 ⟨row bb d τ, (row_lt bb d τ).trans (by norm_num)⟩ ⟨12288 + 16 * (d % 2) + 8 * e.val + h.val, by omega⟩)).toReal
    + (a2 (ix3 ⟨d % 2, by omega⟩ e h)).toReal

/-- The row that the scan of a direction puts out at a time. -/
def wO (bb : Fin 32) (d : ℕ) (h : Fin 8) (τ : ℕ) (x : Fin 512) : ℝ :=
  Seq.out (fun s => lsig (gs a1 a2 bb d 1 h s)) (fun s => gs a1 a2 bb d 0 h s) (fun i => qs a0 bb d h τ i * (1 / 16)) (fun s i => ks a0 bb d h s i) (fun s => vs a1 bb d h s x) (τ + 1)
/-- The matrix memory after the scan. -/
def wC (bb : Fin 32) (d : ℕ) (h : Fin 8) (i : Fin 256) (x : Fin 512) : ℝ :=
  Seq.acc (fun s => lsig (gs a1 a2 bb d 1 h s)) (fun s => gs a1 a2 bb d 0 h s) (fun s => ks a0 bb d h s i * vs a1 bb d h s x) 256
/-- The normaliser after the scan. -/
def wn (bb : Fin 32) (d : ℕ) (h : Fin 8) (i : Fin 256) : ℝ :=
  Seq.acc (fun s => lsig (gs a1 a2 bb d 1 h s)) (fun s => gs a1 a2 bb d 0 h s) (fun s => ks a0 bb d h s i) 256
/-- The stabiliser after the scan. -/
def wm (bb : Fin 32) (d : ℕ) (h : Fin 8) : ℝ :=
  Seq.M (fun s => lsig (gs a1 a2 bb d 1 h s)) (fun s => gs a1 a2 bb d 0 h s) 256

/-- Every element of the three inputs is a real number. -/
structure Real3 : Prop where
  r0 : ∀ i, ∃ r : ℝ, a0 i = (r : EReal)
  r1 : ∀ i, ∃ r : ℝ, a1 i = (r : EReal)
  r2 : ∀ i, ∃ r : ℝ, a2 i = (r : EReal)

theorem toReal_of {y : EReal} (h : ∃ r : ℝ, y = (r : EReal)) : y = ((y.toReal : ℝ) : EReal) := by
  obtain ⟨r, rfl⟩ := h; rw [EReal.toReal_coe]

variable {a0 a1 a2} (H : Real3 a0 a1 a2)
include H

theorem q_of (bb : Fin 32) (d : ℕ) (h : Fin 8) (τ : ℕ) (x : Fin 256) (hτ : τ < 256) (r : Fin 8192) (y : Fin 4096)
    (hr : r.val = 256 * bb.val + rho d τ) (hy : y.val = 256 * h.val + x.val) : a0 (ix2 r y) = ((qs a0 bb d h τ x : ℝ) : EReal) := by
  have er : r = ⟨row bb d τ, row_lt bb d τ⟩ := Fin.ext (hr.trans (row_of bb d τ hτ).symm)
  have ey : y = ⟨256 * h.val + x.val, by omega⟩ := Fin.ext hy
  rw [er, ey]; exact toReal_of (H.r0 _)

theorem k_of (bb : Fin 32) (d : ℕ) (h : Fin 8) (τ : ℕ) (x : Fin 256) (hτ : τ < 256) (r : Fin 8192) (y : Fin 4096)
    (hr : r.val = 256 * bb.val + rho d τ) (hy : y.val = 2048 + 256 * h.val + x.val) : a0 (ix2 r y) = ((ks a0 bb d h τ x : ℝ) : EReal) := by
  have er : r = ⟨row bb d τ, row_lt bb d τ⟩ := Fin.ext (hr.trans (row_of bb d τ hτ).symm)
  have ey : y = ⟨2048 + 256 * h.val + x.val, by omega⟩ := Fin.ext hy
  rw [er, ey]; exact toReal_of (H.r0 _)

theorem v_of (bb : Fin 32) (d : ℕ) (h : Fin 8) (τ : ℕ) (x : Fin 512) (hτ : τ < 256) (r : Fin 16384) (y : Fin 12320)
    (hr : r.val = 256 * bb.val + rho d τ) (hy : y.val = 4096 + 512 * h.val + x.val) : a1 (ix2 r y) = ((vs a1 bb d h τ x : ℝ) : EReal) := by
  have er : r = ⟨row bb d τ, (row_lt bb d τ).trans (by norm_num)⟩ := Fin.ext (hr.trans (row_of bb d τ hτ).symm)
  have ey : y = ⟨4096 + 512 * h.val + x.val, by omega⟩ := Fin.ext hy
  rw [er, ey]; exact toReal_of (H.r1 _)

theorem g_of (bb : Fin 32) (d : Fin 2) (e : Fin 2) (h : Fin 8) (τ : ℕ) (hτ : τ < 256) (r : Fin 16384) (y : Fin 12320)
    (hr : r.val = 256 * bb.val + rho d.val τ) (hy : y.val = 12288 + 16 * d.val + 8 * e.val + h.val) :
    a1 (ix2 r y) + a2 (ix3 d e h) = ((gs a1 a2 bb d.val e h τ : ℝ) : EReal) := by
  have er : r = ⟨row bb d.val τ, (row_lt bb d.val τ).trans (by norm_num)⟩ := Fin.ext (hr.trans (row_of bb d.val τ hτ).symm)
  have ed : d = ⟨d.val % 2, by omega⟩ := Fin.ext (Nat.mod_eq_of_lt d.isLt).symm
  have ey : y = ⟨12288 + 16 * (d.val % 2) + 8 * e.val + h.val, by omega⟩ := Fin.ext (by rw [hy]; show _ = 12288 + 16 * (d.val % 2) + 8 * e.val + h.val; rw [Nat.mod_eq_of_lt d.isLt])
  have e1 := toReal_of (H.r1 (ix2 r y))
  have e2 := toReal_of (H.r2 (ix3 d e h))
  rw [e1, e2, ← EReal.coe_add]
  refine congrArg _ ?_
  unfold gs
  rw [er, ey]
  exact congrArg (fun z : Fin 2 => _ + (a2 (ix3 z e h)).toReal) ed

end Cert.Data

end
-- ==== Proof.Entry.lean ====
/- What the reference's scan starts from, and what its four results are, as real numbers by time. -/
module

public import proofs.«01_k».proof.Proof.Data
public import Idealize.ShloMosaic.Lib.Pipeline.ValueKit
public import Idealize.ShloMosaic.Lib.StableHlo.ReadAt

@[expose] public section

set_option maxRecDepth 16384

noncomputable section

namespace Cert.Ref

open Cert.ReferenceIdeal Cert.ReferenceIdeal.Gen Cert.ReferenceIdeal.Value Cert.Seq Cert.Data Cert.Scan
open Idealize.ShloMosaic Idealize.ShloMosaic.TcCoe Idealize.ShloMosaic.Tactic Idealize.ShloMosaic.Pointwise Idealize.ShloMosaic.StableHlo

variable (m : (ℓ : Loc nD τ sig) → Buf (Elt Ideal) ℓ) (c : Dev nD)

abbrev E : Valuation τ sig (Elt Ideal) := entryContents preI m c
abbrev A0 : FVec Ideal S8192x4096 .f32 := launchContents m c (Proc.devRef .tc main_arg0)
abbrev A1 : FVec Ideal S16384x12320 .f32 := launchContents m c (Proc.devRef .tc main_arg1)
abbrev A2 : FVec Ideal S2x2x8 .f32 := launchContents m c (Proc.devRef .tc main_arg2)

/-- The example and the direction of a row of the scan's batch. -/
def ex (b : Fin 64) : Fin 32 := ⟨b.val % 32, Nat.mod_lt _ (by norm_num)⟩
def dir (b : Fin 64) : Fin 2 := ⟨b.val / 32, by omega⟩

theorem rho0 (τ : ℕ) : rho 0 τ = τ := rfl
theorem rho1 (τ : ℕ) : rho 1 τ = 255 - τ := rfl

variable {m c} (H : Real3 (A0 m c) (A1 m c) (A2 m c))

theorem q_rd0 (j : Fin 4) (b : Fin 64) (h : Fin 8) (s : Fin 64) (d : Fin 256) (hb : b.val < 32) (r : Fin 8192) (y : Fin 4096) (hr : r.val = b.val * 256 + (j.val * 64 + s.val)) (hy : y.val = h.val * 256 + d.val) :
    Q (E m c) (ix5 j b h s d) = A0 m c (ix2 r y) * Ideal.ofBits FTy.f32 0x3D800000#32 := by
  unfold Q E
  simp only [entryContents, afterL_cons, afterL_nil]
  after_reads_simp
  pointwise [id_eq]
  rw [dif_pos hb]
  simp only [upto_zero]
  after_reads_at
  refine congrArg (fun z : EReal => z * Ideal.ofBits FTy.f32 0x3D800000#32) ?_
  refine congrArg (fun i => launchContents m c (Proc.devRef .tc main_arg0) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem q_rd1 (j : Fin 4) (b : Fin 64) (h : Fin 8) (s : Fin 64) (d : Fin 256) (hb : ¬ b.val < 32) (r : Fin 8192) (y : Fin 4096) (hr : r.val = (b.val - 32) * 256 + (255 - (j.val * 64 + s.val))) (hy : y.val = h.val * 256 + d.val) :
    Q (E m c) (ix5 j b h s d) = A0 m c (ix2 r y) * Ideal.ofBits FTy.f32 0x3D800000#32 := by
  unfold Q E
  simp only [entryContents, afterL_cons, afterL_nil]
  after_reads_simp
  pointwise [id_eq]
  rw [dif_neg hb]
  simp only [upto_zero]
  after_reads_at
  refine congrArg (fun z : EReal => z * Ideal.ofBits FTy.f32 0x3D800000#32) ?_
  refine congrArg (fun i => launchContents m c (Proc.devRef .tc main_arg0) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem q0 (H : Real3 (A0 m c) (A1 m c) (A2 m c)) (j : Fin 4) (b : Fin 64) (h : Fin 8) (s : Fin 64) (d : Fin 256) : Q (E m c) (ix5 j b h s d) = ((qs (A0 m c) (ex b) (dir b).val h (64 * j.val + s.val) d * (1 / 16) : ℝ) : EReal) := by
  have hj := j.isLt
  have hs := s.isLt
  have hh := h.isLt
  have hbl := b.isLt
  have hx := d.isLt
  by_cases hb : b.val < 32
  · have e := q_rd0 (m := m) (c := c) j b h s d hb ⟨b.val * 256 + (j.val * 64 + s.val), by omega⟩ ⟨h.val * 256 + d.val, by omega⟩ rfl rfl
    have eb : (dir b).val = 0 := Nat.div_eq_of_lt hb
    have ee : (ex b).val = b.val := Nat.mod_eq_of_lt hb
    rw [eb]
    refine e.trans (Eq.trans (congrArg₂ (fun y z : EReal => y * z) (q_of H (ex b) 0 h _ d (by omega) _ _ ?_ ?_) ofBits_sixteenth) (EReal.coe_mul _ _).symm)
    · rw [ee]; simp only [rho0]; omega
    · first | (dsimp only; done) | (dsimp only; omega) | omega
  · have e := q_rd1 (m := m) (c := c) j b h s d hb ⟨(b.val - 32) * 256 + (255 - (j.val * 64 + s.val)), by omega⟩ ⟨h.val * 256 + d.val, by omega⟩ rfl rfl
    have eb : (dir b).val = 1 := (by show b.val / 32 = 1; omega)
    have ee : (ex b).val = b.val - 32 := by show b.val % 32 = _; omega
    rw [eb]
    refine e.trans (Eq.trans (congrArg₂ (fun y z : EReal => y * z) (q_of H (ex b) 1 h _ d (by omega) _ _ ?_ ?_) ofBits_sixteenth) (EReal.coe_mul _ _).symm)
    · rw [ee]; simp only [rho1]; omega
    · first | (dsimp only; done) | (dsimp only; omega) | omega

theorem k_rd0 (j : Fin 4) (b : Fin 64) (h : Fin 8) (s : Fin 64) (d : Fin 256) (hb : b.val < 32) (r : Fin 8192) (y : Fin 4096) (hr : r.val = b.val * 256 + (j.val * 64 + s.val)) (hy : y.val = 2048 + (h.val * 256 + d.val)) :
    K (E m c) (ix5 j b h s d) = A0 m c (ix2 r y) := by
  unfold K E
  simp only [entryContents, afterL_cons, afterL_nil]
  after_reads_simp
  pointwise [id_eq]
  rw [dif_pos hb]
  simp only [upto_zero]
  after_reads_at
  refine congrArg (fun i => launchContents m c (Proc.devRef .tc main_arg0) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem k_rd1 (j : Fin 4) (b : Fin 64) (h : Fin 8) (s : Fin 64) (d : Fin 256) (hb : ¬ b.val < 32) (r : Fin 8192) (y : Fin 4096) (hr : r.val = (b.val - 32) * 256 + (255 - (j.val * 64 + s.val))) (hy : y.val = 2048 + (h.val * 256 + d.val)) :
    K (E m c) (ix5 j b h s d) = A0 m c (ix2 r y) := by
  unfold K E
  simp only [entryContents, afterL_cons, afterL_nil]
  after_reads_simp
  pointwise [id_eq]
  rw [dif_neg hb]
  simp only [upto_zero]
  after_reads_at
  refine congrArg (fun i => launchContents m c (Proc.devRef .tc main_arg0) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem k0 (H : Real3 (A0 m c) (A1 m c) (A2 m c)) (j : Fin 4) (b : Fin 64) (h : Fin 8) (s : Fin 64) (d : Fin 256) : K (E m c) (ix5 j b h s d) = ((ks (A0 m c) (ex b) (dir b).val h (64 * j.val + s.val) d : ℝ) : EReal) := by
  have hj := j.isLt
  have hs := s.isLt
  have hh := h.isLt
  have hbl := b.isLt
  have hx := d.isLt
  by_cases hb : b.val < 32
  · have e := k_rd0 (m := m) (c := c) j b h s d hb ⟨b.val * 256 + (j.val * 64 + s.val), by omega⟩ ⟨2048 + (h.val * 256 + d.val), by omega⟩ rfl rfl
    have eb : (dir b).val = 0 := Nat.div_eq_of_lt hb
    have ee : (ex b).val = b.val := Nat.mod_eq_of_lt hb
    rw [eb]
    refine e.trans (k_of H (ex b) 0 h _ d (by omega) _ _ ?_ ?_)
    · rw [ee]; simp only [rho0]; omega
    · first | (dsimp only; done) | (dsimp only; omega) | omega
  · have e := k_rd1 (m := m) (c := c) j b h s d hb ⟨(b.val - 32) * 256 + (255 - (j.val * 64 + s.val)), by omega⟩ ⟨2048 + (h.val * 256 + d.val), by omega⟩ rfl rfl
    have eb : (dir b).val = 1 := (by show b.val / 32 = 1; omega)
    have ee : (ex b).val = b.val - 32 := by show b.val % 32 = _; omega
    rw [eb]
    refine e.trans (k_of H (ex b) 1 h _ d (by omega) _ _ ?_ ?_)
    · rw [ee]; simp only [rho1]; omega
    · first | (dsimp only; done) | (dsimp only; omega) | omega

theorem v_rd0 (j : Fin 4) (b : Fin 64) (h : Fin 8) (s : Fin 64) (x : Fin 512) (hb : b.val < 32) (r : Fin 16384) (y : Fin 12320) (hr : r.val = b.val * 256 + (j.val * 64 + s.val)) (hy : y.val = 4096 + (h.val * 512 + x.val)) :
    W (E m c) (ix5 j b h s x) = A1 m c (ix2 r y) := by
  unfold W E
  simp only [entryContents, afterL_cons, afterL_nil]
  after_reads_simp
  pointwise [id_eq]
  rw [dif_pos hb]
  simp only [upto_zero]
  after_reads_at
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem v_rd1 (j : Fin 4) (b : Fin 64) (h : Fin 8) (s : Fin 64) (x : Fin 512) (hb : ¬ b.val < 32) (r : Fin 16384) (y : Fin 12320) (hr : r.val = (b.val - 32) * 256 + (255 - (j.val * 64 + s.val))) (hy : y.val = 4096 + (h.val * 512 + x.val)) :
    W (E m c) (ix5 j b h s x) = A1 m c (ix2 r y) := by
  unfold W E
  simp only [entryContents, afterL_cons, afterL_nil]
  after_reads_simp
  pointwise [id_eq]
  rw [dif_neg hb]
  simp only [upto_zero]
  after_reads_at
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem v0 (H : Real3 (A0 m c) (A1 m c) (A2 m c)) (j : Fin 4) (b : Fin 64) (h : Fin 8) (s : Fin 64) (x : Fin 512) : W (E m c) (ix5 j b h s x) = ((vs (A1 m c) (ex b) (dir b).val h (64 * j.val + s.val) x : ℝ) : EReal) := by
  have hj := j.isLt
  have hs := s.isLt
  have hh := h.isLt
  have hbl := b.isLt
  have hx := x.isLt
  by_cases hb : b.val < 32
  · have e := v_rd0 (m := m) (c := c) j b h s x hb ⟨b.val * 256 + (j.val * 64 + s.val), by omega⟩ ⟨4096 + (h.val * 512 + x.val), by omega⟩ rfl rfl
    have eb : (dir b).val = 0 := Nat.div_eq_of_lt hb
    have ee : (ex b).val = b.val := Nat.mod_eq_of_lt hb
    rw [eb]
    refine e.trans (v_of H (ex b) 0 h _ x (by omega) _ _ ?_ ?_)
    · rw [ee]; simp only [rho0]; omega
    · first | (dsimp only; done) | (dsimp only; omega) | omega
  · have e := v_rd1 (m := m) (c := c) j b h s x hb ⟨(b.val - 32) * 256 + (255 - (j.val * 64 + s.val)), by omega⟩ ⟨4096 + (h.val * 512 + x.val), by omega⟩ rfl rfl
    have eb : (dir b).val = 1 := (by show b.val / 32 = 1; omega)
    have ee : (ex b).val = b.val - 32 := by show b.val % 32 = _; omega
    rw [eb]
    refine e.trans (v_of H (ex b) 1 h _ x (by omega) _ _ ?_ ?_)
    · rw [ee]; simp only [rho1]; omega
    · first | (dsimp only; done) | (dsimp only; omega) | omega

theorem g_rd0 (j : Fin 4) (b : Fin 64) (h : Fin 8) (s : Fin 64) (hb : b.val < 32) (r : Fin 16384) (y : Fin 12320) (hr : r.val = b.val * 256 + (j.val * 64 + s.val)) (hy : y.val = 12288 + h.val) :
    G (E m c) (ix4 j b h s) = A1 m c (ix2 r y) + A2 m c (ix3 0 0 h) := by
  unfold G E
  simp only [entryContents, afterL_cons, afterL_nil]
  after_reads_simp
  pointwise [id_eq]
  rw [dif_pos hb]
  simp only [upto_zero]
  after_reads_at
  refine congrArg₂ (fun y z : EReal => y + z) ?_ (by congr 1 <;> first | rfl | (simp; done))
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem g_rd1 (j : Fin 4) (b : Fin 64) (h : Fin 8) (s : Fin 64) (hb : ¬ b.val < 32) (r : Fin 16384) (y : Fin 12320) (hr : r.val = (b.val - 32) * 256 + (255 - (j.val * 64 + s.val))) (hy : y.val = 12288 + (16 + h.val)) :
    G (E m c) (ix4 j b h s) = A1 m c (ix2 r y) + A2 m c (ix3 1 0 h) := by
  unfold G E
  simp only [entryContents, afterL_cons, afterL_nil]
  after_reads_simp
  pointwise [id_eq]
  rw [dif_neg hb]
  simp only [upto_zero]
  after_reads_at
  refine congrArg₂ (fun y z : EReal => y + z) ?_ (by congr 1 <;> first | rfl | (simp; done))
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem g0 (H : Real3 (A0 m c) (A1 m c) (A2 m c)) (j : Fin 4) (b : Fin 64) (h : Fin 8) (s : Fin 64) : G (E m c) (ix4 j b h s) = ((gs (A1 m c) (A2 m c) (ex b) (dir b).val 0 h (64 * j.val + s.val) : ℝ) : EReal) := by
  have hj := j.isLt
  have hs := s.isLt
  have hh := h.isLt
  have hbl := b.isLt
  by_cases hb : b.val < 32
  · have e := g_rd0 (m := m) (c := c) j b h s hb ⟨b.val * 256 + (j.val * 64 + s.val), by omega⟩ ⟨12288 + h.val, by omega⟩ rfl rfl
    have eb : dir b = (0 : Fin 2) := Fin.ext (Nat.div_eq_of_lt hb)
    have ee : (ex b).val = b.val := Nat.mod_eq_of_lt hb
    rw [eb]
    refine e.trans (g_of H (ex b) 0 0 h _ (by omega) _ _ ?_ ?_)
    · rw [ee]; show _ = 256 * _ + rho 0 _; simp only [rho0]; omega
    · show (_ : ℕ) = 12288 + 16 * 0 + 8 * 0 + h.val; first | (dsimp only; done) | (dsimp only; omega) | omega
  · have e := g_rd1 (m := m) (c := c) j b h s hb ⟨(b.val - 32) * 256 + (255 - (j.val * 64 + s.val)), by omega⟩ ⟨12288 + (16 + h.val), by omega⟩ rfl rfl
    have eb : dir b = (1 : Fin 2) := Fin.ext (by show b.val / 32 = 1; omega)
    have ee : (ex b).val = b.val - 32 := by show b.val % 32 = _; omega
    rw [eb]
    refine e.trans (g_of H (ex b) 1 0 h _ (by omega) _ _ ?_ ?_)
    · rw [ee]; show _ = 256 * _ + rho 1 _; simp only [rho1]; omega
    · show (_ : ℕ) = 12288 + 16 * 1 + 8 * 0 + h.val; first | (dsimp only; done) | (dsimp only; omega) | omega

/-- The reference's logarithm of the sigmoid of a gate, by its formula. -/
def spf (y : EReal) : EReal := -(max (-y) 0 + Ideal.log1p (Ideal.exp (-FloatOps.absf (F := Ideal) (φ := .f32) (-y))))

theorem spf_of (y y' : EReal) (h : y = y') [Decidable (-y ≠ -y)] :
    (-if -y ≠ -y then -y else max (-y) 0 + Ideal.log1p (Ideal.exp (-FloatOps.absf (F := Ideal) (φ := .f32) (-y)))) = spf y' := by
  subst h
  rw [if_neg (fun h => h rfl), spf]

theorem spf_real (x : ℝ) : spf (x : EReal) = ((lsig x : ℝ) : EReal) := by
  rw [spf, ← EReal.coe_neg, show (FloatOps.absf (F := Ideal) (φ := .f32) ((-x : ℝ) : EReal)) = max ((-x : ℝ) : EReal) (-((-x : ℝ) : EReal)) from rfl, ← EReal.coe_neg (-x),
    coe_max, ← abs_eq_max_neg, abs_neg, ← EReal.coe_neg, log1p_exp, ← EReal.coe_zero, coe_max, ← EReal.coe_add, ← EReal.coe_neg, lsig]
  congr 1
  rw [neg_add, ← min_neg_neg, neg_neg, neg_zero, sub_eq_add_neg]

theorem f_rd0 (j : Fin 4) (b : Fin 64) (h : Fin 8) (s : Fin 64) (hb : b.val < 32) (r : Fin 16384) (y : Fin 12320) (hr : r.val = b.val * 256 + (j.val * 64 + s.val)) (hy : y.val = 12288 + (8 + h.val)) :
    Fg (E m c) (ix4 j b h s) = spf (A1 m c (ix2 r y) + A2 m c (ix3 0 1 h)) := by
  unfold Fg E
  simp only [entryContents, afterL_cons, afterL_nil]
  after_reads_simp
  pointwise [id_eq]
  rw [dif_pos hb]
  simp only [upto_zero]
  after_reads_at
  refine spf_of _ _ (congrArg₂ (fun y z : EReal => y + z) ?_ (by congr 1 <;> first | rfl | (simp; done)))
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem f_rd1 (j : Fin 4) (b : Fin 64) (h : Fin 8) (s : Fin 64) (hb : ¬ b.val < 32) (r : Fin 16384) (y : Fin 12320) (hr : r.val = (b.val - 32) * 256 + (255 - (j.val * 64 + s.val))) (hy : y.val = 12288 + (24 + h.val)) :
    Fg (E m c) (ix4 j b h s) = spf (A1 m c (ix2 r y) + A2 m c (ix3 1 1 h)) := by
  unfold Fg E
  simp only [entryContents, afterL_cons, afterL_nil]
  after_reads_simp
  pointwise [id_eq]
  rw [dif_neg hb]
  simp only [upto_zero]
  after_reads_at
  refine spf_of _ _ (congrArg₂ (fun y z : EReal => y + z) ?_ (by congr 1 <;> first | rfl | (simp; done)))
  refine congrArg (fun i => launchContents m c (Proc.devRef .tc main_arg1) i) (funext fun a => Fin.ext ?_)
  match a with
  | ⟨0, _⟩ => exact (hr.trans (by first | rfl | (simp [Fin.rev]; done) | (simp [Fin.rev]; omega))).symm
  | ⟨1, _⟩ => exact (hy.trans (by first | rfl | (simp [Fin.rev]; done) | (simp [Fin.rev]; omega))).symm

theorem f0 (H : Real3 (A0 m c) (A1 m c) (A2 m c)) (j : Fin 4) (b : Fin 64) (h : Fin 8) (s : Fin 64) : Fg (E m c) (ix4 j b h s) = ((lsig (gs (A1 m c) (A2 m c) (ex b) (dir b).val 1 h (64 * j.val + s.val)) : ℝ) : EReal) := by
  have hj := j.isLt
  have hs := s.isLt
  have hh := h.isLt
  have hbl := b.isLt
  by_cases hb : b.val < 32
  · have e := f_rd0 (m := m) (c := c) j b h s hb ⟨b.val * 256 + (j.val * 64 + s.val), by omega⟩ ⟨12288 + (8 + h.val), by omega⟩ rfl rfl
    have eb : dir b = (0 : Fin 2) := Fin.ext (Nat.div_eq_of_lt hb)
    have ee : (ex b).val = b.val := Nat.mod_eq_of_lt hb
    rw [eb]
    refine e.trans (Eq.trans (congrArg spf (g_of H (ex b) 0 1 h _ (by omega) _ _ ?_ ?_)) (spf_real _))
    · rw [ee]; show _ = 256 * _ + rho 0 _; simp only [rho0]; omega
    · show (_ : ℕ) = 12288 + 16 * 0 + 8 * 1 + h.val; first | (dsimp only; done) | (dsimp only; omega) | omega
  · have e := f_rd1 (m := m) (c := c) j b h s hb ⟨(b.val - 32) * 256 + (255 - (j.val * 64 + s.val)), by omega⟩ ⟨12288 + (24 + h.val), by omega⟩ rfl rfl
    have eb : dir b = (1 : Fin 2) := Fin.ext (by show b.val / 32 = 1; omega)
    have ee : (ex b).val = b.val - 32 := by show b.val % 32 = _; omega
    rw [eb]
    refine e.trans (Eq.trans (congrArg spf (g_of H (ex b) 1 1 h _ (by omega) _ _ ?_ ?_)) (spf_real _))
    · rw [ee]; show _ = 256 * _ + rho 1 _; simp only [rho1]; omega
    · show (_ : ℕ) = 12288 + 16 * 1 + 8 * 1 + h.val; first | (dsimp only; done) | (dsimp only; omega) | omega

theorem mask0 (p : Fin 64) (s : Fin 64) : Msk (E m c) (ix2 p s) = if s ≤ p then 1#1 else 0#1 := by
  unfold Msk E
  simp only [entryContents, afterL_cons, afterL_nil]
  after_reads_at
  pointwise [id_eq]
  revert p s; decide +kernel
theorem C0 (b : Fin 64) (h : Fin 8) (d : Fin 256) (x : Fin 512) : C7 (E m c) (ix4 b h d x) = (0 : EReal) := by
  unfold C7 E
  simp only [entryContents, afterL_cons, afterL_nil]
  after_reads_simp
  pointwise [id_eq]
theorem n0 (b : Fin 64) (h : Fin 8) (d : Fin 256) : N8 (E m c) (ix3 b h d) = (0 : EReal) := by
  unfold N8 E
  simp only [entryContents, afterL_cons, afterL_nil]
  after_reads_simp
  pointwise [id_eq]
theorem m0 (b : Fin 64) (h : Fin 8) : M9 (E m c) (ix2 b h) = (0 : EReal) := by
  unfold M9 E
  simp only [entryContents, afterL_cons, afterL_nil]
  after_reads_simp
  pointwise [id_eq]

theorem inv0 (H : Real3 (A0 m c) (A1 m c) (A2 m c)) : Inv (fun b h τ d => qs (A0 m c) (ex b) (dir b).val h τ d * (1 / 16)) (fun b h τ d => ks (A0 m c) (ex b) (dir b).val h τ d)
    (fun b h τ x => vs (A1 m c) (ex b) (dir b).val h τ x) (fun b h τ => gs (A1 m c) (A2 m c) (ex b) (dir b).val 0 h τ)
    (fun b h τ => lsig (gs (A1 m c) (A2 m c) (ex b) (dir b).val 1 h τ)) 0 (E m c) where
  qA := q0 H
  kA := k0 H
  vA := v0 H
  gA := g0 H
  fA := f0 H
  mask := mask0
  ctr := ctr_entry m c
  CA := fun b h d x => (C0 b h d x).trans (by simp [acc])
  nA := fun b h d => (n0 b h d).trans (by simp [acc])
  mA := fun b h => (m0 b h).trans (by simp [Seq.M])
  oA := fun j b h p x hj => absurd hj (Nat.not_lt_zero _)

/-- The values when the reference's scan ends. -/
theorem inv4 (H : Real3 (A0 m c) (A1 m c) (A2 m c)) : Inv (fun b h τ d => qs (A0 m c) (ex b) (dir b).val h τ d * (1 / 16)) (fun b h τ d => ks (A0 m c) (ex b) (dir b).val h τ d)
    (fun b h τ x => vs (A1 m c) (ex b) (dir b).val h τ x) (fun b h τ => gs (A1 m c) (A2 m c) (ex b) (dir b).val 0 h τ)
    (fun b h τ => lsig (gs (A1 m c) (A2 m c) (ex b) (dir b).val 1 h τ)) 4 (STEP^[4] (E m c)) :=
  next (n := 3) (next (n := 2) (next (n := 1) (next (n := 0) (inv0 H))))

section

variable {a0 : FVec Ideal S8192x4096 .f32} {a1 : FVec Ideal S16384x12320 .f32} {a2 : FVec Ideal S2x2x8 .f32} {V : Valuation τ sig (Elt Ideal)}
  (hI : Inv (fun b h τ d => qs a0 (ex b) (dir b).val h τ d * (1 / 16)) (fun b h τ d => ks a0 (ex b) (dir b).val h τ d)
    (fun b h τ x => vs a1 (ex b) (dir b).val h τ x) (fun b h τ => gs a1 a2 (ex b) (dir b).val 0 h τ)
    (fun b h τ => lsig (gs a1 a2 (ex b) (dir b).val 1 h τ)) 4 V)
include hI

/-- The row of the scan's batch of an example and a direction. -/
def bat (bb : Fin 32) (d : Fin 2) : Fin 64 := ⟨32 * d.val + bb.val, by omega⟩
omit hI in
theorem ex_bat (bb : Fin 32) (d : Fin 2) : ex (bat bb d) = bb := Fin.ext (by show (32 * d.val + bb.val) % 32 = _; omega)
omit hI in
theorem dir_bat (bb : Fin 32) (d : Fin 2) : dir (bat bb d) = d := Fin.ext (by show (32 * d.val + bb.val) / 32 = _; omega)

theorem C_at (bb : Fin 32) (d : Fin 2) (h : Fin 8) (i : Fin 256) (x : Fin 512) : C7 V (ix4 (bat bb d) h i x) = ((wC a0 a1 a2 bb d.val h i x : ℝ) : EReal) := by
  have e := hI.CA (bat bb d) h i x
  rw [ex_bat, dir_bat] at e
  exact e
theorem n_at (bb : Fin 32) (d : Fin 2) (h : Fin 8) (i : Fin 256) : N8 V (ix3 (bat bb d) h i) = ((wn a0 a1 a2 bb d.val h i : ℝ) : EReal) := by
  have e := hI.nA (bat bb d) h i
  rw [ex_bat, dir_bat] at e
  exact e
theorem m_at (bb : Fin 32) (d : Fin 2) (h : Fin 8) : M9 V (ix2 (bat bb d) h) = ((wm a1 a2 bb d.val h : ℝ) : EReal) := by
  have e := hI.mA (bat bb d) h
  rw [ex_bat, dir_bat] at e
  exact e
theorem O_at (bb : Fin 32) (d : Fin 2) (h : Fin 8) (j : Fin 4) (p : Fin 64) (x : Fin 512) : O10 V (ix5 j (bat bb d) h p x) = ((wO a0 a1 a2 bb d.val h (64 * j.val + p.val) x : ℝ) : EReal) := by
  have e := hI.oA j (bat bb d) h p x j.isLt
  rw [ex_bat, dir_bat] at e
  exact e

theorem o71 (bb : Fin 32) (d : Fin 2) (h : Fin 8) (i : Fin 256) (x : Fin 512) :
    (out_main_v71 V : FVec Ideal S32x2x8x256x512 .f32) (ix5 bb d h i x) = ((wC a0 a1 a2 bb d.val h i x : ℝ) : EReal) := by
  rw [← C_at hI bb d h i x]
  fin_cases d
  · pointwise [out_main_v71]
    exact congrArg (fun b : Fin 64 => C7 V (ix4 b h i x)) (Fin.ext (by show bb.val = 32 * 0 + bb.val; omega))
  · pointwise [out_main_v71]
    exact congrArg (fun b : Fin 64 => C7 V (ix4 b h i x)) (Fin.ext (by show 32 + bb.val = 32 * 1 + bb.val; omega))
theorem o77 (bb : Fin 32) (d : Fin 2) (h : Fin 8) (i : Fin 256) :
    (out_main_v77 V : FVec Ideal S32x2x8x1x256 .f32) (ix5 bb d h 0 i) = ((wn a0 a1 a2 bb d.val h i : ℝ) : EReal) := by
  rw [← n_at hI bb d h i]
  pointwise [out_main_v77]
  by_cases hd : d.val < 1
  · rw [dif_pos hd]
    exact congrArg (fun b : Fin 64 => N8 V (ix3 b h i)) (Fin.ext (by show bb.val = 32 * d.val + bb.val; omega))
  · rw [dif_neg hd]
    exact congrArg (fun b : Fin 64 => N8 V (ix3 b h i)) (Fin.ext (by show 32 + bb.val = 32 * d.val + bb.val; omega))
theorem o83 (bb : Fin 32) (d : Fin 2) (h : Fin 8) :
    (out_main_v83 V : FVec Ideal S32x2x8x1x1 .f32) (ix5 bb d h 0 0) = ((wm a1 a2 bb d.val h : ℝ) : EReal) := by
  rw [← m_at hI bb d h]
  pointwise [out_main_v83]
  by_cases hd : d.val < 1
  · rw [dif_pos hd]
    exact congrArg (fun b : Fin 64 => M9 V (ix2 b h)) (Fin.ext (by show bb.val = 32 * d.val + bb.val; omega))
  · rw [dif_neg hd]
    exact congrArg (fun b : Fin 64 => M9 V (ix2 b h)) (Fin.ext (by show 32 + bb.val = 32 * d.val + bb.val; omega))
theorem o66 (bb : Fin 32) (d : Fin 2) (h : Fin 8) (τ : ℕ) (x : Fin 512) (hτ : τ < 256) (r : Fin 8192) (y : Fin 4096) (hr : r.val = 256 * bb.val + rho d.val τ) (hy : y.val = 512 * h.val + x.val) :
    (out_main_v66 V : FVec Ideal S2x8192x4096 .f32) (ix3 d r y) = ((wO a0 a1 a2 bb d.val h τ x : ℝ) : EReal) := by
  obtain ⟨z, hz⟩ : ∃ z : EReal, z = ((wO a0 a1 a2 bb d.val h τ x : ℝ) : EReal) := ⟨_, rfl⟩
  have key : ∀ (j : Fin 4) (b : Fin 64) (h' : Fin 8) (p : Fin 64) (x' : Fin 512), j.val = τ / 64 → b.val = 32 * d.val + bb.val → h'.val = h.val → p.val = τ % 64 → x'.val = x.val →
      V (Proc.devRef .tc main_v56_10) (ix5 j b h' p x') = z := by
    intro j b h' p x' hj hb hh hp hx
    obtain rfl : b = bat bb d := Fin.ext hb
    obtain rfl : h' = h := Fin.ext hh
    obtain rfl : x' = x := Fin.ext hx
    refine (O_at hI bb d h' j p x').trans ?_
    rw [hz, hj, hp, Nat.div_add_mod]
  have hx := x.isLt
  have hb := bb.isLt
  rw [← hz]
  pointwise [out_main_v66]
  by_cases hd : d.val < 1
  · rw [dif_pos hd]
    have e0 : d.val = 0 := by omega
    rw [e0, rho0] at hr
    exact key _ _ _ _ _ (by simp; omega) (by simp; omega) (by simp; omega) (by simp; omega) (by simp; omega)
  · rw [dif_neg hd]
    have e0 : d.val = 1 := by omega
    rw [e0, rho1] at hr
    exact key _ _ _ _ _ (by simp [Fin.rev]; omega) (by simp; omega) (by simp; omega) (by simp [Fin.rev]; omega) (by simp; omega)
end

end Cert.Ref

end
-- ==== Proof.Step.lean ====
/- A trip of the scan's loop continues the scan over the reals by a chunk. -/
module

public import proofs.«01_k».proof.Proof.Rows
public import Idealize.ShloMosaic.Lib.WritesUnit

@[expose] public section

set_option maxRecDepth 16384

noncomputable section

namespace Cert.Scan

open Cert.KernelIdeal Cert.KernelIdeal.Gen Cert.Head Cert.Seq
open Idealize.ShloMosaic Idealize.ShloMosaic.TcCoe Idealize.ShloMosaic.Tactic Idealize.ShloMosaic.Pointwise

section

variable (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (k : Fin k0_t1_loop.trips)
  (f13 : Buf (Elt Ideal) (arg13.view.loc (c : Thread nD τ))) (f14 : Buf (Elt Ideal) (arg14.view.loc (c : Thread nD τ))) (f15 : Buf (Elt Ideal) (arg15.view.loc (c : Thread nD τ)))
  (q kk : Fin 4 → ℕ → Fin 256 → ℝ) (v : Fin 4 → ℕ → Fin 512 → ℝ) (fr g : Fin 4 → ℕ → ℝ)
  (hb : Blk (i 2).val (arg4.view.read (Elt Ideal) X4) (arg5.view.read (Elt Ideal) X5) (arg6.view.read (Elt Ideal) X6)
    (arg7.view.read (Elt Ideal) X7) (arg8.view.read (Elt Ideal) X8) q kk v fr g)
  (hs : State (fun h s => lsig (fr h s)) g kk v (128 * k.val) (arg13.view.read (Elt Ideal) f13) (arg14.view.read (Elt Ideal) f14) (arg15.view.read (Elt Ideal) f15))

include hb hs in
/-- What the first head loads is the scan's data of the trip's times and the state before them. -/
theorem in0 : Head.In (fun s => lsig (fr 0 s)) (g 0) (fun s d => q 0 s d * (1 / 16)) (kk 0) (v 0) (128 * k.val) (ord (i 2).val)
    (k0_pay4 i) (k0_pay5 i) (lq0 c i arg4 X4 k) (lk0 c i arg5 X5 k) (lv0 c i arg6 X6 k) (lg0 c i arg7 arg8 X7 X8 k) (lC0 c arg13 f13) (ln0 c arg14 f14) (lm0 c arg15 f15) := by
  have hk : k.val < 2 := k.isLt
  have hd : (i 2).val < 2 := (i 2).isLt
  have ht : ∀ p : Fin 128, 128 * k.val + (ord (i 2).val p).val < 256 := fun p => by have := (ord (i 2).val p).isLt; omega
  have hr : ∀ p : Fin 128, 128 * ((k.val + (i 2).val) % 2) + p.val < 256 := fun p => by have := p.isLt; omega
  have hrow := fun p => row_eq (i 2).val k.val hd hk p
  constructor
  · exact sees i
  · exact seesT i
  · intro p
    refine lf_at _ p _ ?_
    rw [← hb.f 0 _ ⟨_, hr p⟩ (ht p) (hrow p)]
    pointwise [k0_pay13]
    refine congrArg₂ _ ?_ ?_
    · exact readAt_at _ _ _ _ _ (off3_eq i k) (by intro a; fin_cases a <;> simp)
    · exact readAt_at _ _ _ _ _ rfl (by intro a; fin_cases a <;> simp)
  · intro p
    rw [ic_at, ← hb.g 0 _ ⟨_, hr p⟩ (ht p) (hrow p)]
    pointwise [k0_pay13]
    refine congrArg₂ _ ?_ ?_
    · exact readAt_at _ _ _ _ _ (off3_eq i k) (by intro a; fin_cases a <;> simp)
    · exact readAt_at _ _ _ _ _ rfl (by intro a; fin_cases a <;> simp)
  · intro p d
    refine q_at _ p d _ ?_
    rw [← hb.q 0 _ ⟨_, hr p⟩ d ⟨256 * 0 + d.val, by have := d.isLt; omega⟩ (ht p) (hrow p) rfl]
    exact readAt_at _ _ _ _ _ (off1_eq i k) (by intro a; fin_cases a <;> simp)
  · intro p d
    rw [← hb.k 0 _ ⟨_, hr p⟩ d ⟨256 * 0 + d.val, by have := d.isLt; omega⟩ (ht p) (hrow p) rfl]
    exact readAt_at _ _ _ _ _ (off1_eq i k) (by intro a; fin_cases a <;> simp)
  · intro p x
    rw [← hb.v 0 _ ⟨_, hr p⟩ x ⟨512 * 0 + x.val, by have := x.isLt; omega⟩ (ht p) (hrow p) rfl]
    pointwise [k0_pay12]
    exact readAt_at _ _ _ _ _ (off2_eq i k) (by intro a; fin_cases a <;> simp)
  · intro d x
    rw [← hs.C 0 d x]
    pointwise [k0_pay14]
    exact readAt_at _ _ _ _ _ rfl (by intro a; fin_cases a <;> simp)
  · intro d
    rw [← hs.n 0 d]
    pointwise [k0_pay15]
    exact readAt_at _ _ _ _ _ rfl (by intro a; fin_cases a <;> simp)
  · rw [← hs.m 0]
    pointwise [k0_pay16]
    exact readAt_at _ _ _ _ _ rfl (by intro a; fin_cases a <;> simp)

include hb hs in
/-- What the second head loads is the scan's data of the trip's times and the state before them. -/
theorem in1 : Head.In (fun s => lsig (fr 1 s)) (g 1) (fun s d => q 1 s d * (1 / 16)) (kk 1) (v 1) (128 * k.val) (ord (i 2).val)
    (k0_pay4 i) (k0_pay5 i) (lq1 c i arg4 X4 k) (lk1 c i arg5 X5 k) (lv1 c i arg6 X6 k) (lg1 c i arg7 arg8 X7 X8 k) (lC1 c arg13 f13) (ln1 c arg14 f14) (lm1 c arg15 f15) := by
  have hk : k.val < 2 := k.isLt
  have hd : (i 2).val < 2 := (i 2).isLt
  have ht : ∀ p : Fin 128, 128 * k.val + (ord (i 2).val p).val < 256 := fun p => by have := (ord (i 2).val p).isLt; omega
  have hr : ∀ p : Fin 128, 128 * ((k.val + (i 2).val) % 2) + p.val < 256 := fun p => by have := p.isLt; omega
  have hrow := fun p => row_eq (i 2).val k.val hd hk p
  constructor
  · exact sees i
  · exact seesT i
  · intro p
    refine lf_at _ p _ ?_
    rw [← hb.f 1 _ ⟨_, hr p⟩ (ht p) (hrow p)]
    pointwise [k0_pay13]
    refine congrArg₂ _ ?_ ?_
    · exact readAt_at _ _ _ _ _ (off6_eq i k) (by intro a; fin_cases a <;> simp)
    · exact readAt_at _ _ _ _ _ rfl (by intro a; fin_cases a <;> simp)
  · intro p
    rw [ic_at, ← hb.g 1 _ ⟨_, hr p⟩ (ht p) (hrow p)]
    pointwise [k0_pay13]
    refine congrArg₂ _ ?_ ?_
    · exact readAt_at _ _ _ _ _ (off6_eq i k) (by intro a; fin_cases a <;> simp)
    · exact readAt_at _ _ _ _ _ rfl (by intro a; fin_cases a <;> simp)
  · intro p d
    refine q_at _ p d _ ?_
    rw [← hb.q 1 _ ⟨_, hr p⟩ d ⟨256 * 1 + d.val, by have := d.isLt; omega⟩ (ht p) (hrow p) rfl]
    exact readAt_at _ _ _ _ _ (off4_eq i k) (by intro a; fin_cases a <;> simp)
  · intro p d
    rw [← hb.k 1 _ ⟨_, hr p⟩ d ⟨256 * 1 + d.val, by have := d.isLt; omega⟩ (ht p) (hrow p) rfl]
    exact readAt_at _ _ _ _ _ (off4_eq i k) (by intro a; fin_cases a <;> simp)
  · intro p x
    rw [← hb.v 1 _ ⟨_, hr p⟩ x ⟨512 * 1 + x.val, by have := x.isLt; omega⟩ (ht p) (hrow p) rfl]
    pointwise [k0_pay12]
    exact readAt_at _ _ _ _ _ (off5_eq i k) (by intro a; fin_cases a <;> simp)
  · intro d x
    rw [← hs.C 1 d x]
    pointwise [k0_pay14]
    exact readAt_at _ _ _ _ _ rfl (by intro a; fin_cases a <;> simp)
  · intro d
    rw [← hs.n 1 d]
    pointwise [k0_pay15]
    exact readAt_at _ _ _ _ _ rfl (by intro a; fin_cases a <;> simp)
  · rw [← hs.m 1]
    pointwise [k0_pay16]
    exact readAt_at _ _ _ _ _ rfl (by intro a; fin_cases a <;> simp)

include hb hs in
/-- What the third head loads is the scan's data of the trip's times and the state before them. -/
theorem in2 : Head.In (fun s => lsig (fr 2 s)) (g 2) (fun s d => q 2 s d * (1 / 16)) (kk 2) (v 2) (128 * k.val) (ord (i 2).val)
    (k0_pay4 i) (k0_pay5 i) (lq2 c i arg4 X4 k) (lk2 c i arg5 X5 k) (lv2 c i arg6 X6 k) (lg2 c i arg7 arg8 X7 X8 k) (lC2 c arg13 f13) (ln2 c arg14 f14) (lm2 c arg15 f15) := by
  have hk : k.val < 2 := k.isLt
  have hd : (i 2).val < 2 := (i 2).isLt
  have ht : ∀ p : Fin 128, 128 * k.val + (ord (i 2).val p).val < 256 := fun p => by have := (ord (i 2).val p).isLt; omega
  have hr : ∀ p : Fin 128, 128 * ((k.val + (i 2).val) % 2) + p.val < 256 := fun p => by have := p.isLt; omega
  have hrow := fun p => row_eq (i 2).val k.val hd hk p
  constructor
  · exact sees i
  · exact seesT i
  · intro p
    refine lf_at _ p _ ?_
    rw [← hb.f 2 _ ⟨_, hr p⟩ (ht p) (hrow p)]
    pointwise [k0_pay13]
    refine congrArg₂ _ ?_ ?_
    · exact readAt_at _ _ _ _ _ (off9_eq i k) (by intro a; fin_cases a <;> simp)
    · exact readAt_at _ _ _ _ _ rfl (by intro a; fin_cases a <;> simp)
  · intro p
    rw [ic_at, ← hb.g 2 _ ⟨_, hr p⟩ (ht p) (hrow p)]
    pointwise [k0_pay13]
    refine congrArg₂ _ ?_ ?_
    · exact readAt_at _ _ _ _ _ (off9_eq i k) (by intro a; fin_cases a <;> simp)
    · exact readAt_at _ _ _ _ _ rfl (by intro a; fin_cases a <;> simp)
  · intro p d
    refine q_at _ p d _ ?_
    rw [← hb.q 2 _ ⟨_, hr p⟩ d ⟨256 * 2 + d.val, by have := d.isLt; omega⟩ (ht p) (hrow p) rfl]
    exact readAt_at _ _ _ _ _ (off7_eq i k) (by intro a; fin_cases a <;> simp)
  · intro p d
    rw [← hb.k 2 _ ⟨_, hr p⟩ d ⟨256 * 2 + d.val, by have := d.isLt; omega⟩ (ht p) (hrow p) rfl]
    exact readAt_at _ _ _ _ _ (off7_eq i k) (by intro a; fin_cases a <;> simp)
  · intro p x
    rw [← hb.v 2 _ ⟨_, hr p⟩ x ⟨512 * 2 + x.val, by have := x.isLt; omega⟩ (ht p) (hrow p) rfl]
    pointwise [k0_pay12]
    exact readAt_at _ _ _ _ _ (off8_eq i k) (by intro a; fin_cases a <;> simp)
  · intro d x
    rw [← hs.C 2 d x]
    pointwise [k0_pay14]
    exact readAt_at _ _ _ _ _ rfl (by intro a; fin_cases a <;> simp)
  · intro d
    rw [← hs.n 2 d]
    pointwise [k0_pay15]
    exact readAt_at _ _ _ _ _ rfl (by intro a; fin_cases a <;> simp)
  · rw [← hs.m 2]
    pointwise [k0_pay16]
    exact readAt_at _ _ _ _ _ rfl (by intro a; fin_cases a <;> simp)

include hb hs in
/-- What the fourth head loads is the scan's data of the trip's times and the state before them. -/
theorem in3 : Head.In (fun s => lsig (fr 3 s)) (g 3) (fun s d => q 3 s d * (1 / 16)) (kk 3) (v 3) (128 * k.val) (ord (i 2).val)
    (k0_pay4 i) (k0_pay5 i) (lq3 c i arg4 X4 k) (lk3 c i arg5 X5 k) (lv3 c i arg6 X6 k) (lg3 c i arg7 arg8 X7 X8 k) (lC3 c arg13 f13) (ln3 c arg14 f14) (lm3 c arg15 f15) := by
  have hk : k.val < 2 := k.isLt
  have hd : (i 2).val < 2 := (i 2).isLt
  have ht : ∀ p : Fin 128, 128 * k.val + (ord (i 2).val p).val < 256 := fun p => by have := (ord (i 2).val p).isLt; omega
  have hr : ∀ p : Fin 128, 128 * ((k.val + (i 2).val) % 2) + p.val < 256 := fun p => by have := p.isLt; omega
  have hrow := fun p => row_eq (i 2).val k.val hd hk p
  constructor
  · exact sees i
  · exact seesT i
  · intro p
    refine lf_at _ p _ ?_
    rw [← hb.f 3 _ ⟨_, hr p⟩ (ht p) (hrow p)]
    pointwise [k0_pay13]
    refine congrArg₂ _ ?_ ?_
    · exact readAt_at _ _ _ _ _ (off12_eq i k) (by intro a; fin_cases a <;> simp)
    · exact readAt_at _ _ _ _ _ rfl (by intro a; fin_cases a <;> simp)
  · intro p
    rw [ic_at, ← hb.g 3 _ ⟨_, hr p⟩ (ht p) (hrow p)]
    pointwise [k0_pay13]
    refine congrArg₂ _ ?_ ?_
    · exact readAt_at _ _ _ _ _ (off12_eq i k) (by intro a; fin_cases a <;> simp)
    · exact readAt_at _ _ _ _ _ rfl (by intro a; fin_cases a <;> simp)
  · intro p d
    refine q_at _ p d _ ?_
    rw [← hb.q 3 _ ⟨_, hr p⟩ d ⟨256 * 3 + d.val, by have := d.isLt; omega⟩ (ht p) (hrow p) rfl]
    exact readAt_at _ _ _ _ _ (off10_eq i k) (by intro a; fin_cases a <;> simp)
  · intro p d
    rw [← hb.k 3 _ ⟨_, hr p⟩ d ⟨256 * 3 + d.val, by have := d.isLt; omega⟩ (ht p) (hrow p) rfl]
    exact readAt_at _ _ _ _ _ (off10_eq i k) (by intro a; fin_cases a <;> simp)
  · intro p x
    rw [← hb.v 3 _ ⟨_, hr p⟩ x ⟨512 * 3 + x.val, by have := x.isLt; omega⟩ (ht p) (hrow p) rfl]
    pointwise [k0_pay12]
    exact readAt_at _ _ _ _ _ (off11_eq i k) (by intro a; fin_cases a <;> simp)
  · intro d x
    rw [← hs.C 3 d x]
    pointwise [k0_pay14]
    exact readAt_at _ _ _ _ _ rfl (by intro a; fin_cases a <;> simp)
  · intro d
    rw [← hs.n 3 d]
    pointwise [k0_pay15]
    exact readAt_at _ _ _ _ _ rfl (by intro a; fin_cases a <;> simp)
  · rw [← hs.m 3]
    pointwise [k0_pay16]
    exact readAt_at _ _ _ _ _ rfl (by intro a; fin_cases a <;> simp)

include hb hs in
theorem nextC0 (d : Fin 256) (x : Fin 512) : arg13.view.read (Elt Ideal) (arg13.view.writes (Elt Ideal) f13 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15)) (ix3 0 d x)
    = (acc (fun s => lsig (fr 0 s)) (g 0) (fun s => kk 0 s d * v 0 s x) (128 * k.val + 128) : EReal) := by
  rw [trip_C]
  refine (View.read_writes_cons_unit_of_not_mem _ _ _ _ _ _ rfl 0 (Or.inl (by show 0 < 3; decide))).trans ?_
  refine (View.read_writes_cons_unit_of_not_mem _ _ _ _ _ _ rfl 0 (Or.inl (by show 0 < 2; decide))).trans ?_
  refine (View.read_writes_cons_unit_of_not_mem _ _ _ _ _ _ rfl 0 (Or.inl (by show 0 < 1; decide))).trans ?_
  refine (View.read_writes_cons_unit_of_mem _ _ _ _ _ _ (ix3 0 d x) rfl (by intro a; fin_cases a <;> simp)).trans ?_
  pointwise [k0_pay140]
  exact mem_at (in0 c i arg4 arg5 arg6 arg7 arg8 arg13 arg14 arg15 X4 X5 X6 X7 X8 k f13 f14 f15 q kk v fr g hb hs) d x

include hb hs in
theorem nextn0 (d : Fin 256) : arg14.view.read (Elt Ideal) (arg14.view.writes (Elt Ideal) f14 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15)) (ix3 0 0 d)
    = (acc (fun s => lsig (fr 0 s)) (g 0) (fun s => kk 0 s d) (128 * k.val + 128) : EReal) := by
  rw [trip_n]
  refine (View.read_writes_cons_unit_of_not_mem _ _ _ _ _ _ rfl 0 (Or.inl (by show 0 < 3; decide))).trans ?_
  refine (View.read_writes_cons_unit_of_not_mem _ _ _ _ _ _ rfl 0 (Or.inl (by show 0 < 2; decide))).trans ?_
  refine (View.read_writes_cons_unit_of_not_mem _ _ _ _ _ _ rfl 0 (Or.inl (by show 0 < 1; decide))).trans ?_
  refine (View.read_writes_cons_unit_of_mem _ _ _ _ _ _ (ix3 0 0 d) rfl (by intro a; fin_cases a <;> simp)).trans ?_
  pointwise [k0_pay141]
  exact nrm_at (in0 c i arg4 arg5 arg6 arg7 arg8 arg13 arg14 arg15 X4 X5 X6 X7 X8 k f13 f14 f15 q kk v fr g hb hs) d

include hb hs in
theorem nextm0  : arg15.view.read (Elt Ideal) (arg15.view.writes (Elt Ideal) f15 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15)) (ix3 0 0 0)
    = (M (fun s => lsig (fr 0 s)) (g 0) (128 * k.val + 128) : EReal) := by
  rw [trip_m]
  refine (View.read_writes_cons_unit_of_not_mem _ _ _ _ _ _ rfl 0 (Or.inl (by show 0 < 3; decide))).trans ?_
  refine (View.read_writes_cons_unit_of_not_mem _ _ _ _ _ _ rfl 0 (Or.inl (by show 0 < 2; decide))).trans ?_
  refine (View.read_writes_cons_unit_of_not_mem _ _ _ _ _ _ rfl 0 (Or.inl (by show 0 < 1; decide))).trans ?_
  refine (View.read_writes_cons_unit_of_mem _ _ _ _ _ _ (ix3 0 0 0) rfl (by intro a; fin_cases a <;> simp)).trans ?_
  pointwise [k0_pay142]
  exact mn_at (in0 c i arg4 arg5 arg6 arg7 arg8 arg13 arg14 arg15 X4 X5 X6 X7 X8 k f13 f14 f15 q kk v fr g hb hs)

include hb hs in
theorem rows0 (vO : View sig .tc .vmem S1x256x2048 .f32) (f9 : vO.ty.Contents (Elt Ideal)) (L : List (View.Piece (Elt Ideal) S1x256x2048 .f32))
    (p : Fin 128) (x : Fin 512) (r : Fin 256) (y : Fin 2048) (hr : r.val = 128 * ((k.val + (i 2).val) % 2) + p.val) (hy : y.val = 512 * 0 + x.val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) (ix3 0 r y)
    = (out (fun s => lsig (fr 0 s)) (g 0) (fun d => q 0 (128 * k.val + (ord (i 2).val p).val) d * (1 / 16)) (kk 0) (fun s => v 0 s x)
        (128 * k.val + (ord (i 2).val p).val + 1) : EReal) := by
  rw [trip_out]
  have hx := x.isLt
  refine (View.read_writes_cons_unit_of_not_mem _ _ _ _ _ _ (off16_eq i k) 2 (Or.inl (by show y.val < 1536; omega))).trans ?_
  refine (View.read_writes_cons_unit_of_not_mem _ _ _ _ _ _ (off15_eq i k) 2 (Or.inl (by show y.val < 1024; omega))).trans ?_
  refine (View.read_writes_cons_unit_of_not_mem _ _ _ _ _ _ (off14_eq i k) 2 (Or.inl (by show y.val < 512; omega))).trans ?_
  refine (View.read_writes_cons_unit_of_mem _ _ _ _ _ _ (ix3 0 p x) (off13_eq i k) (by
    intro a; fin_cases a
    · rfl
    · exact hr
    · exact hy)).trans ?_
  pointwise [k0_pay139]
  exact out_at (in0 c i arg4 arg5 arg6 arg7 arg8 arg13 arg14 arg15 X4 X5 X6 X7 X8 k f13 f14 f15 q kk v fr g hb hs) p x

include hb hs in
theorem nextC1 (d : Fin 256) (x : Fin 512) : arg13.view.read (Elt Ideal) (arg13.view.writes (Elt Ideal) f13 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15)) (ix3 1 d x)
    = (acc (fun s => lsig (fr 1 s)) (g 1) (fun s => kk 1 s d * v 1 s x) (128 * k.val + 128) : EReal) := by
  rw [trip_C]
  refine (View.read_writes_cons_unit_of_not_mem _ _ _ _ _ _ rfl 0 (Or.inl (by show 1 < 3; decide))).trans ?_
  refine (View.read_writes_cons_unit_of_not_mem _ _ _ _ _ _ rfl 0 (Or.inl (by show 1 < 2; decide))).trans ?_
  refine (View.read_writes_cons_unit_of_mem _ _ _ _ _ _ (ix3 0 d x) rfl (by intro a; fin_cases a <;> simp)).trans ?_
  pointwise [k0_pay140]
  exact mem_at (in1 c i arg4 arg5 arg6 arg7 arg8 arg13 arg14 arg15 X4 X5 X6 X7 X8 k f13 f14 f15 q kk v fr g hb hs) d x

include hb hs in
theorem nextn1 (d : Fin 256) : arg14.view.read (Elt Ideal) (arg14.view.writes (Elt Ideal) f14 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15)) (ix3 1 0 d)
    = (acc (fun s => lsig (fr 1 s)) (g 1) (fun s => kk 1 s d) (128 * k.val + 128) : EReal) := by
  rw [trip_n]
  refine (View.read_writes_cons_unit_of_not_mem _ _ _ _ _ _ rfl 0 (Or.inl (by show 1 < 3; decide))).trans ?_
  refine (View.read_writes_cons_unit_of_not_mem _ _ _ _ _ _ rfl 0 (Or.inl (by show 1 < 2; decide))).trans ?_
  refine (View.read_writes_cons_unit_of_mem _ _ _ _ _ _ (ix3 0 0 d) rfl (by intro a; fin_cases a <;> simp)).trans ?_
  pointwise [k0_pay141]
  exact nrm_at (in1 c i arg4 arg5 arg6 arg7 arg8 arg13 arg14 arg15 X4 X5 X6 X7 X8 k f13 f14 f15 q kk v fr g hb hs) d

include hb hs in
theorem nextm1  : arg15.view.read (Elt Ideal) (arg15.view.writes (Elt Ideal) f15 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15)) (ix3 1 0 0)
    = (M (fun s => lsig (fr 1 s)) (g 1) (128 * k.val + 128) : EReal) := by
  rw [trip_m]
  refine (View.read_writes_cons_unit_of_not_mem _ _ _ _ _ _ rfl 0 (Or.inl (by show 1 < 3; decide))).trans ?_
  refine (View.read_writes_cons_unit_of_not_mem _ _ _ _ _ _ rfl 0 (Or.inl (by show 1 < 2; decide))).trans ?_
  refine (View.read_writes_cons_unit_of_mem _ _ _ _ _ _ (ix3 0 0 0) rfl (by intro a; fin_cases a <;> simp)).trans ?_
  pointwise [k0_pay142]
  exact mn_at (in1 c i arg4 arg5 arg6 arg7 arg8 arg13 arg14 arg15 X4 X5 X6 X7 X8 k f13 f14 f15 q kk v fr g hb hs)

include hb hs in
theorem rows1 (vO : View sig .tc .vmem S1x256x2048 .f32) (f9 : vO.ty.Contents (Elt Ideal)) (L : List (View.Piece (Elt Ideal) S1x256x2048 .f32))
    (p : Fin 128) (x : Fin 512) (r : Fin 256) (y : Fin 2048) (hr : r.val = 128 * ((k.val + (i 2).val) % 2) + p.val) (hy : y.val = 512 * 1 + x.val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) (ix3 0 r y)
    = (out (fun s => lsig (fr 1 s)) (g 1) (fun d => q 1 (128 * k.val + (ord (i 2).val p).val) d * (1 / 16)) (kk 1) (fun s => v 1 s x)
        (128 * k.val + (ord (i 2).val p).val + 1) : EReal) := by
  rw [trip_out]
  have hx := x.isLt
  refine (View.read_writes_cons_unit_of_not_mem _ _ _ _ _ _ (off16_eq i k) 2 (Or.inl (by show y.val < 1536; omega))).trans ?_
  refine (View.read_writes_cons_unit_of_not_mem _ _ _ _ _ _ (off15_eq i k) 2 (Or.inl (by show y.val < 1024; omega))).trans ?_
  refine (View.read_writes_cons_unit_of_mem _ _ _ _ _ _ (ix3 0 p x) (off14_eq i k) (by
    intro a; fin_cases a
    · rfl
    · exact hr
    · exact hy)).trans ?_
  pointwise [k0_pay139]
  exact out_at (in1 c i arg4 arg5 arg6 arg7 arg8 arg13 arg14 arg15 X4 X5 X6 X7 X8 k f13 f14 f15 q kk v fr g hb hs) p x

include hb hs in
theorem nextC2 (d : Fin 256) (x : Fin 512) : arg13.view.read (Elt Ideal) (arg13.view.writes (Elt Ideal) f13 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15)) (ix3 2 d x)
    = (acc (fun s => lsig (fr 2 s)) (g 2) (fun s => kk 2 s d * v 2 s x) (128 * k.val + 128) : EReal) := by
  rw [trip_C]
  refine (View.read_writes_cons_unit_of_not_mem _ _ _ _ _ _ rfl 0 (Or.inl (by show 2 < 3; decide))).trans ?_
  refine (View.read_writes_cons_unit_of_mem _ _ _ _ _ _ (ix3 0 d x) rfl (by intro a; fin_cases a <;> simp)).trans ?_
  pointwise [k0_pay140]
  exact mem_at (in2 c i arg4 arg5 arg6 arg7 arg8 arg13 arg14 arg15 X4 X5 X6 X7 X8 k f13 f14 f15 q kk v fr g hb hs) d x

include hb hs in
theorem nextn2 (d : Fin 256) : arg14.view.read (Elt Ideal) (arg14.view.writes (Elt Ideal) f14 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15)) (ix3 2 0 d)
    = (acc (fun s => lsig (fr 2 s)) (g 2) (fun s => kk 2 s d) (128 * k.val + 128) : EReal) := by
  rw [trip_n]
  refine (View.read_writes_cons_unit_of_not_mem _ _ _ _ _ _ rfl 0 (Or.inl (by show 2 < 3; decide))).trans ?_
  refine (View.read_writes_cons_unit_of_mem _ _ _ _ _ _ (ix3 0 0 d) rfl (by intro a; fin_cases a <;> simp)).trans ?_
  pointwise [k0_pay141]
  exact nrm_at (in2 c i arg4 arg5 arg6 arg7 arg8 arg13 arg14 arg15 X4 X5 X6 X7 X8 k f13 f14 f15 q kk v fr g hb hs) d

include hb hs in
theorem nextm2  : arg15.view.read (Elt Ideal) (arg15.view.writes (Elt Ideal) f15 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15)) (ix3 2 0 0)
    = (M (fun s => lsig (fr 2 s)) (g 2) (128 * k.val + 128) : EReal) := by
  rw [trip_m]
  refine (View.read_writes_cons_unit_of_not_mem _ _ _ _ _ _ rfl 0 (Or.inl (by show 2 < 3; decide))).trans ?_
  refine (View.read_writes_cons_unit_of_mem _ _ _ _ _ _ (ix3 0 0 0) rfl (by intro a; fin_cases a <;> simp)).trans ?_
  pointwise [k0_pay142]
  exact mn_at (in2 c i arg4 arg5 arg6 arg7 arg8 arg13 arg14 arg15 X4 X5 X6 X7 X8 k f13 f14 f15 q kk v fr g hb hs)

include hb hs in
theorem rows2 (vO : View sig .tc .vmem S1x256x2048 .f32) (f9 : vO.ty.Contents (Elt Ideal)) (L : List (View.Piece (Elt Ideal) S1x256x2048 .f32))
    (p : Fin 128) (x : Fin 512) (r : Fin 256) (y : Fin 2048) (hr : r.val = 128 * ((k.val + (i 2).val) % 2) + p.val) (hy : y.val = 512 * 2 + x.val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) (ix3 0 r y)
    = (out (fun s => lsig (fr 2 s)) (g 2) (fun d => q 2 (128 * k.val + (ord (i 2).val p).val) d * (1 / 16)) (kk 2) (fun s => v 2 s x)
        (128 * k.val + (ord (i 2).val p).val + 1) : EReal) := by
  rw [trip_out]
  have hx := x.isLt
  refine (View.read_writes_cons_unit_of_not_mem _ _ _ _ _ _ (off16_eq i k) 2 (Or.inl (by show y.val < 1536; omega))).trans ?_
  refine (View.read_writes_cons_unit_of_mem _ _ _ _ _ _ (ix3 0 p x) (off15_eq i k) (by
    intro a; fin_cases a
    · rfl
    · exact hr
    · exact hy)).trans ?_
  pointwise [k0_pay139]
  exact out_at (in2 c i arg4 arg5 arg6 arg7 arg8 arg13 arg14 arg15 X4 X5 X6 X7 X8 k f13 f14 f15 q kk v fr g hb hs) p x

include hb hs in
theorem nextC3 (d : Fin 256) (x : Fin 512) : arg13.view.read (Elt Ideal) (arg13.view.writes (Elt Ideal) f13 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15)) (ix3 3 d x)
    = (acc (fun s => lsig (fr 3 s)) (g 3) (fun s => kk 3 s d * v 3 s x) (128 * k.val + 128) : EReal) := by
  rw [trip_C]
  refine (View.read_writes_cons_unit_of_mem _ _ _ _ _ _ (ix3 0 d x) rfl (by intro a; fin_cases a <;> simp)).trans ?_
  pointwise [k0_pay140]
  exact mem_at (in3 c i arg4 arg5 arg6 arg7 arg8 arg13 arg14 arg15 X4 X5 X6 X7 X8 k f13 f14 f15 q kk v fr g hb hs) d x

include hb hs in
theorem nextn3 (d : Fin 256) : arg14.view.read (Elt Ideal) (arg14.view.writes (Elt Ideal) f14 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15)) (ix3 3 0 d)
    = (acc (fun s => lsig (fr 3 s)) (g 3) (fun s => kk 3 s d) (128 * k.val + 128) : EReal) := by
  rw [trip_n]
  refine (View.read_writes_cons_unit_of_mem _ _ _ _ _ _ (ix3 0 0 d) rfl (by intro a; fin_cases a <;> simp)).trans ?_
  pointwise [k0_pay141]
  exact nrm_at (in3 c i arg4 arg5 arg6 arg7 arg8 arg13 arg14 arg15 X4 X5 X6 X7 X8 k f13 f14 f15 q kk v fr g hb hs) d

include hb hs in
theorem nextm3  : arg15.view.read (Elt Ideal) (arg15.view.writes (Elt Ideal) f15 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15)) (ix3 3 0 0)
    = (M (fun s => lsig (fr 3 s)) (g 3) (128 * k.val + 128) : EReal) := by
  rw [trip_m]
  refine (View.read_writes_cons_unit_of_mem _ _ _ _ _ _ (ix3 0 0 0) rfl (by intro a; fin_cases a <;> simp)).trans ?_
  pointwise [k0_pay142]
  exact mn_at (in3 c i arg4 arg5 arg6 arg7 arg8 arg13 arg14 arg15 X4 X5 X6 X7 X8 k f13 f14 f15 q kk v fr g hb hs)

include hb hs in
theorem rows3 (vO : View sig .tc .vmem S1x256x2048 .f32) (f9 : vO.ty.Contents (Elt Ideal)) (L : List (View.Piece (Elt Ideal) S1x256x2048 .f32))
    (p : Fin 128) (x : Fin 512) (r : Fin 256) (y : Fin 2048) (hr : r.val = 128 * ((k.val + (i 2).val) % 2) + p.val) (hy : y.val = 512 * 3 + x.val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) (ix3 0 r y)
    = (out (fun s => lsig (fr 3 s)) (g 3) (fun d => q 3 (128 * k.val + (ord (i 2).val p).val) d * (1 / 16)) (kk 3) (fun s => v 3 s x)
        (128 * k.val + (ord (i 2).val p).val + 1) : EReal) := by
  rw [trip_out]
  have hx := x.isLt
  refine (View.read_writes_cons_unit_of_mem _ _ _ _ _ _ (ix3 0 p x) (off16_eq i k) (by
    intro a; fin_cases a
    · rfl
    · exact hr
    · exact hy)).trans ?_
  pointwise [k0_pay139]
  exact out_at (in3 c i arg4 arg5 arg6 arg7 arg8 arg13 arg14 arg15 X4 X5 X6 X7 X8 k f13 f14 f15 q kk v fr g hb hs) p x

/-- Rows that a trip does not work on. -/
theorem rows_skip (vO : View sig .tc .vmem S1x256x2048 .f32) (f9 : vO.ty.Contents (Elt Ideal)) (L : List (View.Piece (Elt Ideal) S1x256x2048 .f32))
    (y : S1x256x2048.Idx) (hr : (y 1).val < 128 * ((k.val + (i 2).val) % 2) ∨ 128 * ((k.val + (i 2).val) % 2) + 128 ≤ (y 1).val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) y = vO.read (Elt Ideal) (vO.writes (Elt Ideal) f9 L) y := by
  rw [trip_out]
  exact (View.read_writes_cons_unit_of_not_mem _ _ _ _ _ _ (off16_eq i k) 1 hr).trans
    ((View.read_writes_cons_unit_of_not_mem _ _ _ _ _ _ (off15_eq i k) 1 hr).trans
    ((View.read_writes_cons_unit_of_not_mem _ _ _ _ _ _ (off14_eq i k) 1 hr).trans
    (View.read_writes_cons_unit_of_not_mem _ _ _ _ _ _ (off13_eq i k) 1 hr)))

end

end Cert.Scan

end
-- ==== Proof.Points.lean ====
/- What a point of the kernel's scan leaves in its four blocks, over the reals. -/
module

public import proofs.«01_k».proof.Proof.Step
public import proofs.«01_k».proof.Proof.Frame
public import proofs.«01_k».proof.Proof.Data
public import Idealize.ShloMosaic.Lib.WritesUnit
public import Idealize.ShloMosaic.Lib.Pipeline.ValueKit
public import Idealize.ShloMosaic.Lib.StableHlo.ReadAt

@[expose] public section

set_option maxRecDepth 16384

noncomputable section

namespace Cert.Scan

open Cert.KernelIdeal Cert.KernelIdeal.Gen Cert.Head Cert.Seq Cert.Data
open Idealize.ShloMosaic Idealize.ShloMosaic.TcCoe Idealize.ShloMosaic.Tactic Idealize.ShloMosaic.Pointwise

section

variable (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (k : Fin k0_t1_loop.trips)
  (f13 : Buf (Elt Ideal) (arg13.view.loc (c : Thread nD τ))) (f14 : Buf (Elt Ideal) (arg14.view.loc (c : Thread nD τ))) (f15 : Buf (Elt Ideal) (arg15.view.loc (c : Thread nD τ)))
  (q kk : Fin 4 → ℕ → Fin 256 → ℝ) (v : Fin 4 → ℕ → Fin 512 → ℝ) (fr g : Fin 4 → ℕ → ℝ)
  (hb : Blk (i 2).val (arg4.view.read (Elt Ideal) X4) (arg5.view.read (Elt Ideal) X5) (arg6.view.read (Elt Ideal) X6)
    (arg7.view.read (Elt Ideal) X7) (arg8.view.read (Elt Ideal) X8) q kk v fr g)
  (hs : State (fun h s => lsig (fr h s)) g kk v (128 * k.val) (arg13.view.read (Elt Ideal) f13) (arg14.view.read (Elt Ideal) f14) (arg15.view.read (Elt Ideal) f15))

include hb hs in
/-- A trip takes the state on by its 128 steps. -/
theorem state_next : State (fun h s => lsig (fr h s)) g kk v (128 * k.val + 128)
    (arg13.view.read (Elt Ideal) (arg13.view.writes (Elt Ideal) f13 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.1 f13 f14 f15)))
    (arg14.view.read (Elt Ideal) (arg14.view.writes (Elt Ideal) f14 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.1 f13 f14 f15)))
    (arg15.view.read (Elt Ideal) (arg15.view.writes (Elt Ideal) f15 ((trip c i arg4 harg4 arg5 harg5 arg6 harg6 arg7 harg7 arg8 harg8 arg9 harg9 arg10 harg10 arg11 harg11 arg12 harg12 arg13 harg13 arg14 harg14 arg15 harg15 arg2 X4 X5 X6 X7 X8 k).2.2.2.1 f13 f14 f15))) where
  C := fun h d x => by
    fin_cases h
    · exact nextC0 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d x
    · exact nextC1 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d x
    · exact nextC2 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d x
    · exact nextC3 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d x
  n := fun h d => by
    fin_cases h
    · exact nextn0 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d
    · exact nextn1 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d
    · exact nextn2 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d
    · exact nextn3 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs d
  m := fun h => by
    fin_cases h
    · exact nextm0 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs
    · exact nextm1 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs
    · exact nextm2 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs
    · exact nextm3 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs

include hb hs in
/-- The rows that a trip puts out. -/
theorem rows_all (vO : View sig .tc .vmem S1x256x2048 .f32) (f9 : vO.ty.Contents (Elt Ideal)) (L : List (View.Piece (Elt Ideal) S1x256x2048 .f32))
    (h : Fin 4) (p : Fin 128) (x : Fin 512) (r : Fin 256) (y : Fin 2048) (hr : r.val = 128 * ((k.val + (i 2).val) % 2) + p.val) (hy : y.val = 512 * h.val + x.val) :
    vO.read (Elt Ideal) (vO.writes (Elt Ideal) f9 ((trip c i arg4 harg4 arg5 harg5 arg6 harg6 arg7 harg7 arg8 harg8 arg9 harg9 arg10 harg10 arg11 harg11 arg12 harg12 arg13 harg13 arg14 harg14 arg15 harg15 arg2 X4 X5 X6 X7 X8 k).1 f13 f14 f15 ++ L)) (ix3 0 r y)
    = (out (fun s => lsig (fr h s)) (g h) (fun d => q h (128 * k.val + (ord (i 2).val p).val) d * (1 / 16)) (kk h) (fun s => v h s x)
        (128 * k.val + (ord (i 2).val p).val + 1) : EReal) := by
  fin_cases h
  · exact rows0 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs vO f9 L p x r y hr hy
  · exact rows1 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs vO f9 L p x r y hr hy
  · exact rows2 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs vO f9 L p x r y hr hy
  · exact rows3 c i arg4 harg4 arg5 harg5 arg6 harg6 arg7 harg7 arg8 harg8 arg9 harg9 arg10 harg10 arg11 harg11 arg12 harg12 arg13 harg13 arg14 harg14 arg15 harg15 arg2 X4 X5 X6 X7 X8 k f13 f14 f15 q kk v fr g hb hs vO f9 L p x r y hr hy

end

section

variable (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole) (arg2 : BitVec 32) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ)))
  (q kk : Fin 4 → ℕ → Fin 256 → ℝ) (v : Fin 4 → ℕ → Fin 512 → ℝ) (fr g : Fin 4 → ℕ → ℝ)
  (hb : Blk (i 2).val (arg4.view.read (Elt Ideal) X4) (arg5.view.read (Elt Ideal) X5) (arg6.view.read (Elt Ideal) X6)
    (arg7.view.read (Elt Ideal) X7) (arg8.view.read (Elt Ideal) X8) q kk v fr g)

/-- The cleared scratches hold the state before the first step. -/
theorem state0 : State (fun h s => lsig (fr h s)) g kk v 0 (arg13.view.read (Elt Ideal) (z13 (F := Ideal) arg13)) (arg14.view.read (Elt Ideal) (z14 (F := Ideal) arg14)) (arg15.view.read (Elt Ideal) (z15 (F := Ideal) arg15)) where
  C := fun h d x => by
    refine (View.read_writes_cons_unit_of_mem _ _ _ _ _ _ (ix3 h d x) rfl (by intro a; fin_cases a <;> simp)).trans ?_
    pointwise [k0_pay1]
    simp [acc]
  n := fun h d => by
    refine (View.read_writes_cons_unit_of_mem _ _ _ _ _ _ (ix3 h 0 d) rfl (by intro a; fin_cases a <;> simp)).trans ?_
    pointwise [k0_pay2]
    simp [acc]
  m := fun h => by
    refine (View.read_writes_cons_unit_of_mem _ _ _ _ _ _ (ix3 h 0 0) rfl (by intro a; fin_cases a <;> simp)).trans ?_
    pointwise [k0_pay3]
    simp [Seq.M]

include hb in
theorem state_succ (k : Fin k0_t1_loop.trips)
    (hs : State (fun h s => lsig (fr h s)) g kk v (128 * k.val) (arg13.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) k.val).1) (arg14.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) k.val).2.1) (arg15.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) k.val).2.2)) :
    State (fun h s => lsig (fr h s)) g kk v (128 * (k.val + 1)) (arg13.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) (k.val + 1)).1) (arg14.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) (k.val + 1)).2.1) (arg15.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) (k.val + 1)).2.2) := by
  rw [st_succ]
  exact state_next c i arg4 harg4 arg5 harg5 arg6 harg6 arg7 harg7 arg8 harg8 arg9 harg9 arg10 harg10 arg11 harg11 arg12 harg12 arg13 harg13 arg14 harg14 arg15 harg15 arg2 X4 X5 X6 X7 X8 k _ _ _ q kk v fr g hb hs

include hb in
theorem state_at : ∀ n ≤ 2, State (fun h s => lsig (fr h s)) g kk v (128 * n) (arg13.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) n).1) (arg14.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) n).2.1) (arg15.view.read (Elt Ideal) (st c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) n).2.2)
  | 0, _ => state0 arg13 arg14 arg15 kk v fr g
  | 1, _ => state_succ c i arg4 harg4 arg5 harg5 arg6 harg6 arg7 harg7 arg8 harg8 arg9 harg9 arg10 harg10 arg11 harg11 arg12 harg12 arg13 harg13 arg14 harg14 arg15 harg15 arg2 X4 X5 X6 X7 X8 q kk v fr g hb ⟨0, by decide⟩ (state_at 0 (by decide))
  | 2, _ => state_succ c i arg4 harg4 arg5 harg5 arg6 harg6 arg7 harg7 arg8 harg8 arg9 harg9 arg10 harg10 arg11 harg11 arg12 harg12 arg13 harg13 arg14 harg14 arg15 harg15 arg2 X4 X5 X6 X7 X8 q kk v fr g hb ⟨1, by decide⟩ (state_at 1 (by decide))

include hb in
/-- The rows that the two trips put out, by time. -/
theorem rows_at (vO : View sig .tc .vmem S1x256x2048 .f32) (f9 : vO.ty.Contents (Elt Ideal))
    (h : Fin 4) (τ : ℕ) (hτ : τ < 256) (x : Fin 512) (r : Fin 256) (y : Fin 2048) (hr : r.val = rho (i 2).val τ) (hy : y.val = 512 * h.val + x.val) :
    vO.read (Elt Ideal) (vO.writes (Elt Ideal) f9 (pb c i arg4 harg4 arg5 harg5 arg6 harg6 arg7 harg7 arg8 harg8 arg9 harg9 arg10 harg10 arg11 harg11 arg12 harg12 arg13 harg13 arg14 harg14 arg15 harg15 arg2 X4 X5 X6 X7 X8 (z13 arg13) (z14 arg14) (z15 arg15) 2)) (ix3 0 r y)
    = (out (fun s => lsig (fr h s)) (g h) (fun d => q h τ d * (1 / 16)) (kk h) (fun s => v h s x) (τ + 1) : EReal) := by
  have hd : (i 2).val < 2 := (i 2).isLt
  rw [pb_succ c i arg4 harg4 arg5 harg5 arg6 harg6 arg7 harg7 arg8 harg8 arg9 harg9 arg10 harg10 arg11 harg11 arg12 harg12 arg13 harg13 arg14 harg14 arg15 harg15 arg2 X4 X5 X6 X7 X8 _ _ _ (⟨1, by decide⟩ : Fin k0_t1_loop.trips)]
  by_cases ht : τ < 128
  · have e := row_eq (i 2).val 0 hd (by decide) ((ord (i 2).val).symm ⟨τ, ht⟩)
    rw [Equiv.apply_symm_apply] at e
    have e' : r.val = 128 * ((0 + (i 2).val) % 2) + ((ord (i 2).val).symm ⟨τ, ht⟩).val := by rw [hr, e]; congr 1; simp
    have hp := ((ord (i 2).val).symm ⟨τ, ht⟩).isLt
    refine (rows_skip c i arg4 harg4 arg5 harg5 arg6 harg6 arg7 harg7 arg8 harg8 arg9 harg9 arg10 harg10 arg11 harg11 arg12 harg12 arg13 harg13 arg14 harg14 arg15 harg15 arg2 X4 X5 X6 X7 X8 ⟨1, by decide⟩ _ _ _ vO f9 _ (ix3 0 r y) (by show r.val < 128 * ((1 + (i 2).val) % 2) ∨ 128 * ((1 + (i 2).val) % 2) + 128 ≤ r.val; omega)).trans ?_
    rw [pb_succ c i arg4 harg4 arg5 harg5 arg6 harg6 arg7 harg7 arg8 harg8 arg9 harg9 arg10 harg10 arg11 harg11 arg12 harg12 arg13 harg13 arg14 harg14 arg15 harg15 arg2 X4 X5 X6 X7 X8 _ _ _ (⟨0, by decide⟩ : Fin k0_t1_loop.trips)]
    refine (rows_all c i arg4 harg4 arg5 harg5 arg6 harg6 arg7 harg7 arg8 harg8 arg9 harg9 arg10 harg10 arg11 harg11 arg12 harg12 arg13 harg13 arg14 harg14 arg15 harg15 arg2 X4 X5 X6 X7 X8 ⟨0, by decide⟩ _ _ _ q kk v fr g hb (state_at c i arg4 harg4 arg5 harg5 arg6 harg6 arg7 harg7 arg8 harg8 arg9 harg9 arg10 harg10 arg11 harg11 arg12 harg12 arg13 harg13 arg14 harg14 arg15 harg15 arg2 X4 X5 X6 X7 X8 q kk v fr g hb 0 (by decide)) vO f9 _ h ((ord (i 2).val).symm ⟨τ, ht⟩) x r y e' hy).trans ?_
    rw [Equiv.apply_symm_apply]
    simp
  · have ht' : τ - 128 < 128 := by omega
    have e := row_eq (i 2).val 1 hd (by decide) ((ord (i 2).val).symm ⟨τ - 128, ht'⟩)
    rw [Equiv.apply_symm_apply] at e
    have e1 : 128 * 1 + (τ - 128) = τ := by omega
    have e' : r.val = 128 * ((1 + (i 2).val) % 2) + ((ord (i 2).val).symm ⟨τ - 128, ht'⟩).val := by rw [hr, e]; congr 1; exact e1.symm
    refine (rows_all c i arg4 harg4 arg5 harg5 arg6 harg6 arg7 harg7 arg8 harg8 arg9 harg9 arg10 harg10 arg11 harg11 arg12 harg12 arg13 harg13 arg14 harg14 arg15 harg15 arg2 X4 X5 X6 X7 X8 ⟨1, by decide⟩ _ _ _ q kk v fr g hb (state_at c i arg4 harg4 arg5 harg5 arg6 harg6 arg7 harg7 arg8 harg8 arg9 harg9 arg10 harg10 arg11 harg11 arg12 harg12 arg13 harg13 arg14 harg14 arg15 harg15 arg2 X4 X5 X6 X7 X8 q kk v fr g hb 1 (by decide)) vO f9 _ h ((ord (i 2).val).symm ⟨τ - 128, ht'⟩) x r y e' hy).trans ?_
    rw [Equiv.apply_symm_apply]
    show _ = _
    rw [show 128 * (⟨1, by decide⟩ : Fin k0_t1_loop.trips).val + (⟨τ - 128, ht'⟩ : Fin 128).val = τ from e1]

end

theorem idx : ∀ t : Fin cfg0.N, win0_0.index t = ![t.val / 4, t.val / 2 % 2] ∧ win0_1.index t = ![t.val / 4, 2 + t.val / 2 % 2]
    ∧ win0_2.index t = ![t.val / 4, 2 + t.val / 2 % 2] ∧ win0_3.index t = ![t.val % 2, t.val / 2 % 2, t.val / 4, 0] ∧ win0_4.index t = ![t.val % 2, t.val / 2 % 2, 0, 0]
    ∧ win0_5.index t = ![t.val % 2, t.val / 4, t.val / 2 % 2] ∧ win0_6.index t = ![t.val / 4, t.val % 2, t.val / 2 % 2, 0, 0]
    ∧ win0_7.index t = ![t.val / 4, t.val % 2, t.val / 2 % 2, 0, 0] ∧ win0_8.index t = ![t.val / 4, t.val % 2, t.val / 2 % 2, 0, 0] ∧ t.val < 128 :=
  (by decide +kernel : ∀ t : Fin grid0.N, _)

theorem coord2 : ∀ t : Fin cfg0.N, (grid0.coords t 2).val = t.val % 2 := (by decide +kernel : ∀ t : Fin grid0.N, _)

variable (m : (ℓ : Loc nD τ sig) → Buf (Elt Ideal) ℓ) (c : Dev nD)

abbrev B0 : FVec Ideal S8192x4096 .f32 := m ((c : Thread nD τ).loc main_arg0)
abbrev B1 : FVec Ideal S16384x12320 .f32 := m ((c : Thread nD τ).loc main_arg1)
abbrev B2 : FVec Ideal S2x2x8 .f32 := m ((c : Thread nD τ).loc main_arg2)

theorem V5 (R : Fin 16384) (Y : Fin 12288) : (V m c main_v5 : FVec Ideal S16384x12288 .f32) (ix2 R Y) = B1 m c (ix2 R ⟨Y.val, by omega⟩) := by
  unfold V
  after_reads_at
theorem V2 (d : Fin 2) (h : Fin 8) (R : Fin 16384) (e : Fin 2) : (V m c main_v2 : FVec Ideal S2x8x16384x2 .f32) (ix4 d h R e) = B1 m c (ix2 R ⟨12288 + (d.val * 16 + e.val * 8 + h.val), by omega⟩) := by
  unfold V
  after_reads_at
theorem V4 (d : Fin 2) (h : Fin 8) (e : Fin 2) : (V m c main_v4 : FVec Ideal S2x8x1x2 .f32) (ix4 d h 0 e) = B2 m c (ix3 d e h) := by
  unfold V
  after_reads_at
theorem rd0 (t : Fin cfg0.N) (r : Fin 256) (y : Fin 1024) : (iblk m c 0 t : FVec Ideal S256x1024 .f32) (ix2 r y)
    = B0 m c (ix2 ⟨256 * (t.val / 4) + r.val, by have : t.val < 128 := t.isLt; omega⟩ ⟨1024 * (t.val / 2 % 2) + y.val, by omega⟩) := by
  blk_point [iblk, V_main_arg0, idx t]
theorem rd1 (t : Fin cfg0.N) (r : Fin 256) (y : Fin 1024) : (iblk m c 1 t : FVec Ideal S256x1024 .f32) (ix2 r y)
    = B0 m c (ix2 ⟨256 * (t.val / 4) + r.val, by have : t.val < 128 := t.isLt; omega⟩ ⟨1024 * (2 + t.val / 2 % 2) + y.val, by omega⟩) := by
  blk_point [iblk, V_main_arg0, idx t]
theorem rd2 (t : Fin cfg0.N) (r : Fin 256) (y : Fin 2048) : (iblk m c 2 t : FVec Ideal S256x2048 .f32) (ix2 r y)
    = (V m c main_v5 : FVec Ideal S16384x12288 .f32) (ix2 ⟨256 * (t.val / 4) + r.val, by have : t.val < 128 := t.isLt; omega⟩ ⟨2048 * (2 + t.val / 2 % 2) + y.val, by omega⟩) := by
  blk_point [iblk, idx t]
theorem rd3 (t : Fin cfg0.N) (h : Fin 4) (r : Fin 256) (e : Fin 2) : (iblk m c 3 t : FVec Ideal S1x4x256x2 .f32) (ix4 0 h r e)
    = (V m c main_v2 : FVec Ideal S2x8x16384x2 .f32) (ix4 ⟨t.val % 2, by omega⟩ ⟨4 * (t.val / 2 % 2) + h.val, by omega⟩ ⟨256 * (t.val / 4) + r.val, by have : t.val < 128 := t.isLt; omega⟩ e) := by
  blk_point [iblk, idx t]
theorem rd4 (t : Fin cfg0.N) (h : Fin 4) (e : Fin 2) : (iblk m c 4 t : FVec Ideal S1x4x1x2 .f32) (ix4 0 h 0 e)
    = (V m c main_v4 : FVec Ideal S2x8x1x2 .f32) (ix4 ⟨t.val % 2, by omega⟩ ⟨4 * (t.val / 2 % 2) + h.val, by omega⟩ 0 e) := by
  blk_point [iblk, idx t]

end Cert.Scan

end
-- ==== Proof.Final.lean ====
/- What the kernel's scan leaves in its four result arrays, over the reals. -/
module

public import proofs.«01_k».proof.Proof.Points
public import Idealize.ShloMosaic.Lib.WritesUnit
public import Idealize.ShloMosaic.Lib.Pipeline.ValueKit
public import Idealize.ShloMosaic.Lib.StableHlo.ReadAt

@[expose] public section

set_option maxRecDepth 16384

noncomputable section

namespace Cert.Scan

open Cert.KernelIdeal Cert.KernelIdeal.Gen Cert.Head Cert.Seq Cert.Data
open Idealize.ShloMosaic Idealize.ShloMosaic.TcCoe Idealize.ShloMosaic.Tactic Idealize.ShloMosaic.Pointwise

section

variable (c : Dev nD) (i : grid0.Coords) (arg4 : Memref sig .tc .vmem S256x1024 .f32) (harg4 : arg4.IsWhole) (arg5 : Memref sig .tc .vmem S256x1024 .f32) (harg5 : arg5.IsWhole) (arg6 : Memref sig .tc .vmem S256x2048 .f32) (harg6 : arg6.IsWhole) (arg7 : Memref sig .tc .vmem S1x4x256x2 .f32) (harg7 : arg7.IsWhole) (arg8 : Memref sig .tc .vmem S1x4x1x2 .f32) (harg8 : arg8.IsWhole) (arg9 : Memref sig .tc .vmem S1x256x2048 .f32) (harg9 : arg9.IsWhole) (arg10 : Memref sig .tc .vmem S1x1x4x256x512 .f32) (harg10 : arg10.IsWhole) (arg11 : Memref sig .tc .vmem S1x1x4x1x256 .f32) (harg11 : arg11.IsWhole) (arg12 : Memref sig .tc .vmem S1x1x4x1x1 .f32) (harg12 : arg12.IsWhole) (arg13 : Memref sig .tc .vmem S4x256x512 .f32) (harg13 : arg13.IsWhole) (arg14 : Memref sig .tc .vmem S4x1x256 .f32) (harg14 : arg14.IsWhole) (arg15 : Memref sig .tc .vmem S4x1x1 .f32) (harg15 : arg15.IsWhole)  (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (hc : k0_cond2 i = 1#1) (hc1 : Scalar.cmpi .ne (Scalar.extui (Scalar.cmpi .eq (BitVec.ofNat 32 (i 3).val) 0#32) : BitVec 32) 0#32 = 1#1)
  (q kk : Fin 4 → ℕ → Fin 256 → ℝ) (v : Fin 4 → ℕ → Fin 512 → ℝ) (fr g : Fin 4 → ℕ → ℝ)
  (hb : Blk (i 2).val (arg4.view.read (Elt Ideal) X4) (arg5.view.read (Elt Ideal) X5) (arg6.view.read (Elt Ideal) X6)
    (arg7.view.read (Elt Ideal) X7) (arg8.view.read (Elt Ideal) X8) q kk v fr g)

theorem piece10 : (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.1 = [⟨Rect.unit ![0, 0, 0, 0, 0] S1x1x4x256x512.size inb_S1x1x4x256x512_S1x1x4x256x512_0_0_0_0_0,
    k0_pay9 (arg13.view.readAt (Elt Ideal) (Rect.unit ![0, 0, 0] S4x256x512.size inb_S4x256x512_S4x256x512_0_0_0).toLoadRect (st c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (z13 arg13) (z14 arg14) (z15 arg15) 2).1)⟩] := by
  unfold bodyRun; rfl
theorem piece11 : (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.1 = [⟨Rect.unit ![0, 0, 0, 0, 0] S1x1x4x1x256.size inb_S1x1x4x1x256_S1x1x4x1x256_0_0_0_0_0,
    k0_pay10 (arg14.view.readAt (Elt Ideal) (Rect.unit ![0, 0, 0] S4x1x256.size inb_S4x1x256_S4x1x256_0_0_0).toLoadRect (st c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (z13 arg13) (z14 arg14) (z15 arg15) 2).2.1)⟩] := by
  unfold bodyRun; rfl
theorem piece12 : (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.2.1 = [⟨Rect.unit ![0, 0, 0, 0, 0] S1x1x4x1x1.size inb_S1x1x4x1x1_S1x1x4x1x1_0_0_0_0_0,
    k0_pay11 (arg15.view.readAt (Elt Ideal) (Rect.unit ![0, 0, 0] S4x1x1.size inb_S4x1x1_S4x1x1_0_0_0).toLoadRect (st c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 (z13 arg13) (z14 arg14) (z15 arg15) 2).2.2)⟩] := by
  unfold bodyRun; rfl

include hb in
theorem body_C (vO : View sig .tc .vmem S1x1x4x256x512 .f32) (f : vO.ty.Contents (Elt Ideal)) (h : Fin 4) (d : Fin 256) (x : Fin 512) :
    vO.read (Elt Ideal) (vO.writes (Elt Ideal) f (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.1) (ix5 0 0 h d x) = (acc (fun s => lsig (fr h s)) (g h) (fun s => kk h s d * v h s x) 256 : EReal) := by
  rw [piece10]
  refine (View.read_writes_cons_unit_of_mem _ _ _ _ _ _ (ix5 0 0 h d x) rfl (by intro a; fin_cases a <;> simp)).trans ?_
  pointwise [k0_pay9]
  refine (readAt_at _ _ _ _ (ix3 h d x) rfl (by intro a; fin_cases a <;> simp)).trans ?_
  exact (state_at c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 q kk v fr g hb 2 (by decide)).C h d x
include hb in
theorem body_n (vO : View sig .tc .vmem S1x1x4x1x256 .f32) (f : vO.ty.Contents (Elt Ideal)) (h : Fin 4) (d : Fin 256) :
    vO.read (Elt Ideal) (vO.writes (Elt Ideal) f (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.1) (ix5 0 0 h 0 d) = (acc (fun s => lsig (fr h s)) (g h) (fun s => kk h s d) 256 : EReal) := by
  rw [piece11]
  refine (View.read_writes_cons_unit_of_mem _ _ _ _ _ _ (ix5 0 0 h 0 d) rfl (by intro a; fin_cases a <;> simp)).trans ?_
  pointwise [k0_pay10]
  refine (readAt_at _ _ _ _ (ix3 h 0 d) rfl (by intro a; fin_cases a <;> simp)).trans ?_
  exact (state_at c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 q kk v fr g hb 2 (by decide)).n h d
include hb in
theorem body_m (vO : View sig .tc .vmem S1x1x4x1x1 .f32) (f : vO.ty.Contents (Elt Ideal)) (h : Fin 4) :
    vO.read (Elt Ideal) (vO.writes (Elt Ideal) f (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).2.2.2.1) (ix5 0 0 h 0 0) = (Seq.M (fun s => lsig (fr h s)) (g h) 256 : EReal) := by
  rw [piece12]
  refine (View.read_writes_cons_unit_of_mem _ _ _ _ _ _ (ix5 0 0 h 0 0) rfl (by intro a; fin_cases a <;> simp)).trans ?_
  pointwise [k0_pay11]
  refine (readAt_at _ _ _ _ (ix3 h 0 0) rfl (by intro a; fin_cases a <;> simp)).trans ?_
  exact (state_at c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 q kk v fr g hb 2 (by decide)).m h
include hb in
theorem body_O (vO : View sig .tc .vmem S1x256x2048 .f32) (f : vO.ty.Contents (Elt Ideal))
    (h : Fin 4) (τ : ℕ) (hτ : τ < 256) (x : Fin 512) (r : Fin 256) (y : Fin 2048) (hr : r.val = rho (i 2).val τ) (hy : y.val = 512 * h.val + x.val) :
    vO.read (Elt Ideal) (vO.writes (Elt Ideal) f (bodyRun c i arg4 harg4 arg5 harg5 arg6 harg6 arg7 harg7 arg8 harg8 arg9 harg9 arg10 harg10 arg11 harg11 arg12 harg12 arg13 harg13 arg14 harg14 arg15 harg15 hc hc1 X4 X5 X6 X7 X8).1) (ix3 0 r y)
    = (out (fun s => lsig (fr h s)) (g h) (fun d => q h τ d * (1 / 16)) (kk h) (fun s => v h s x) (τ + 1) : EReal) := by
  rw [bodyRun_out]
  exact rows_at c i arg4 harg4 arg5 harg5 arg6 harg6 arg7 harg7 arg8 harg8 arg9 harg9 arg10 harg10 arg11 harg11 arg12 harg12 arg13 harg13 arg14 harg14 arg15 harg15 (BitVec.ofNat 32 (i 2).val) X4 X5 X6 X7 X8 q kk v fr g hb vO f h τ hτ x r y hr hy

end

variable (m : (ℓ : Loc nD τ sig) → Buf (Elt Ideal) ℓ) (c : Dev nD)

/-- The example, the direction and the heads of a point. -/
def pe (t : Fin cfg0.N) : Fin 32 := ⟨t.val / 4, by have : t.val < 128 := t.isLt; omega⟩
def pd (t : Fin cfg0.N) : Fin 2 := ⟨t.val % 2, by omega⟩
def ph (t : Fin cfg0.N) (h : Fin 4) : Fin 8 := ⟨4 * (t.val / 2 % 2) + h.val, by omega⟩

theorem rho_rho (d r : ℕ) (hr : r < 256) : rho d (rho d r) = r := by
  unfold rho; split <;> omega

variable {m c} (H : Real3 (B0 m c) (B1 m c) (B2 m c))
include H

/-- The blocks of a point hold the scan's data of its example, direction and heads. -/
theorem blk (t : Fin cfg0.N) : Blk (grid0.coords t 2).val (iblk m c 0 t) (iblk m c 1 t) (iblk m c 2 t) (iblk m c 3 t) (iblk m c 4 t)
    (fun h => qs (B0 m c) (pe t) (pd t).val (ph t h)) (fun h => ks (B0 m c) (pe t) (pd t).val (ph t h)) (fun h => vs (B1 m c) (pe t) (pd t).val (ph t h))
    (fun h => gs (B1 m c) (B2 m c) (pe t) (pd t).val 1 (ph t h)) (fun h => gs (B1 m c) (B2 m c) (pe t) (pd t).val 0 (ph t h)) where
  q := fun h τ r x y hτ hr hy => (rd0 m c t r y).trans (q_of H (pe t) (pd t).val (ph t h) τ x hτ _ _
    (by show 256 * (t.val / 4) + r.val = 256 * (t.val / 4) + rho (t.val % 2) τ; rw [hr, coord2]) (by show 1024 * (t.val / 2 % 2) + y.val = 256 * (4 * (t.val / 2 % 2) + h.val) + x.val; omega))
  k := fun h τ r x y hτ hr hy => (rd1 m c t r y).trans (k_of H (pe t) (pd t).val (ph t h) τ x hτ _ _
    (by show 256 * (t.val / 4) + r.val = 256 * (t.val / 4) + rho (t.val % 2) τ; rw [hr, coord2]) (by show 1024 * (2 + t.val / 2 % 2) + y.val = 2048 + 256 * (4 * (t.val / 2 % 2) + h.val) + x.val; omega))
  v := fun h τ r x y hτ hr hy => ((rd2 m c t r y).trans (V5 m c _ _)).trans (v_of H (pe t) (pd t).val (ph t h) τ x hτ _ _
    (by show 256 * (t.val / 4) + r.val = 256 * (t.val / 4) + rho (t.val % 2) τ; rw [hr, coord2]) (by show 2048 * (2 + t.val / 2 % 2) + y.val = 4096 + 512 * (4 * (t.val / 2 % 2) + h.val) + x.val; omega))
  g := fun h τ r hτ hr => (congrArg₂ (fun y z : EReal => y + z) ((rd3 m c t h r 0).trans (V2 m c _ _ _ _)) ((rd4 m c t h 0).trans (V4 m c _ _ _))).trans (g_of H (pe t) (pd t) 0 (ph t h) τ hτ _ _
    (by show 256 * (t.val / 4) + r.val = 256 * (t.val / 4) + rho (t.val % 2) τ; rw [hr, coord2])
    (by show 12288 + (t.val % 2 * 16 + 0 * 8 + (4 * (t.val / 2 % 2) + h.val)) = 12288 + 16 * (t.val % 2) + 8 * 0 + (4 * (t.val / 2 % 2) + h.val); omega))
  f := fun h τ r hτ hr => (congrArg₂ (fun y z : EReal => y + z) ((rd3 m c t h r 1).trans (V2 m c _ _ _ _)) ((rd4 m c t h 1).trans (V4 m c _ _ _))).trans (g_of H (pe t) (pd t) 1 (ph t h) τ hτ _ _
    (by show 256 * (t.val / 4) + r.val = 256 * (t.val / 4) + rho (t.val % 2) τ; rw [hr, coord2])
    (by show 12288 + (t.val % 2 * 16 + 1 * 8 + (4 * (t.val / 2 % 2) + h.val)) = 12288 + 16 * (t.val % 2) + 8 * 1 + (4 * (t.val / 2 % 2) + h.val); omega))

/-- The same of the staging buffers that the body reads. -/
theorem blk' (t : Fin cfg0.N) : Blk (grid0.coords t 2).val ((st0_0 t).view.read (Elt Ideal) ((hstage0_0 ((cfg0.slots t 0).cast nbuf0_0)).unread (iblk m c 0 t)))
    ((st0_1 t).view.read (Elt Ideal) ((hstage0_1 ((cfg0.slots t 1).cast nbuf0_1)).unread (iblk m c 1 t)))
    ((st0_2 t).view.read (Elt Ideal) ((hstage0_2 ((cfg0.slots t 2).cast nbuf0_2)).unread (iblk m c 2 t)))
    ((st0_3 t).view.read (Elt Ideal) ((hstage0_3 ((cfg0.slots t 3).cast nbuf0_3)).unread (iblk m c 3 t)))
    ((st0_4 t).view.read (Elt Ideal) ((hstage0_4 ((cfg0.slots t 4).cast nbuf0_4)).unread (iblk m c 4 t)))
    (fun h => qs (B0 m c) (pe t) (pd t).val (ph t h)) (fun h => ks (B0 m c) (pe t) (pd t).val (ph t h)) (fun h => vs (B1 m c) (pe t) (pd t).val (ph t h))
    (fun h => gs (B1 m c) (B2 m c) (pe t) (pd t).val 1 (ph t h)) (fun h => gs (B1 m c) (B2 m c) (pe t) (pd t).val 0 (ph t h)) := by
  have e0 : (st0_0 t).view.read (Elt Ideal) ((hstage0_0 ((cfg0.slots t 0).cast nbuf0_0)).unread (iblk m c 0 t)) = iblk m c 0 t := (hstage0_0 ((cfg0.slots t 0).cast nbuf0_0)).read_unread (iblk m c 0 t)
  have e1 : (st0_1 t).view.read (Elt Ideal) ((hstage0_1 ((cfg0.slots t 1).cast nbuf0_1)).unread (iblk m c 1 t)) = iblk m c 1 t := (hstage0_1 ((cfg0.slots t 1).cast nbuf0_1)).read_unread (iblk m c 1 t)
  have e2 : (st0_2 t).view.read (Elt Ideal) ((hstage0_2 ((cfg0.slots t 2).cast nbuf0_2)).unread (iblk m c 2 t)) = iblk m c 2 t := (hstage0_2 ((cfg0.slots t 2).cast nbuf0_2)).read_unread (iblk m c 2 t)
  have e3 : (st0_3 t).view.read (Elt Ideal) ((hstage0_3 ((cfg0.slots t 3).cast nbuf0_3)).unread (iblk m c 3 t)) = iblk m c 3 t := (hstage0_3 ((cfg0.slots t 3).cast nbuf0_3)).read_unread (iblk m c 3 t)
  have e4 : (st0_4 t).view.read (Elt Ideal) ((hstage0_4 ((cfg0.slots t 4).cast nbuf0_4)).unread (iblk m c 4 t)) = iblk m c 4 t := (hstage0_4 ((cfg0.slots t 4).cast nbuf0_4)).read_unread (iblk m c 4 t)
  rw [e0, e1, e2, e3, e4]
  exact blk H t

theorem out5_at (t : Fin cfg0.N) (h : Fin 4) (τ : ℕ) (hτ : τ < 256) (x : Fin 512) (r : Fin 256) (y : Fin 2048) (hr : r.val = rho (t.val % 2) τ) (hy : y.val = 512 * h.val + x.val) :
    out5 m c t (ix3 0 r y) = ((wO (B0 m c) (B1 m c) (B2 m c) (pe t) (pd t).val (ph t h) τ x : ℝ) : EReal) := by
  unfold out5 wO
  exact body_O _ _ _ _ _ _ _ _ _ _ _ _ _ _ _ _ _ _ _ _ _ _ _ _ _ _ _ _ _ _ _ _ _ _ _ _ _ _ (blk' H t) _ _ h τ hτ x r y (by rw [coord2]; exact hr) hy
theorem out6_at (t : Fin cfg0.N) (h : Fin 4) (d : Fin 256) (x : Fin 512) :
    out6 m c t (ix5 0 0 h d x) = ((wC (B0 m c) (B1 m c) (B2 m c) (pe t) (pd t).val (ph t h) d x : ℝ) : EReal) := by
  unfold out6 wC
  exact body_C _ _ _ _ _ _ _ _ _ _ _ _ _ _ _ _ _ _ _ _ _ _ _ _ _ _ _ _ _ _ _ _ _ _ _ _ _ _ (blk' H t) _ _ h d x
theorem out7_at (t : Fin cfg0.N) (h : Fin 4) (d : Fin 256) :
    out7 m c t (ix5 0 0 h 0 d) = ((wn (B0 m c) (B1 m c) (B2 m c) (pe t) (pd t).val (ph t h) d : ℝ) : EReal) := by
  unfold out7 wn
  exact body_n _ _ _ _ _ _ _ _ _ _ _ _ _ _ _ _ _ _ _ _ _ _ _ _ _ _ _ _ _ _ _ _ _ _ _ _ _ _ (blk' H t) _ _ h d
theorem out8_at (t : Fin cfg0.N) (h : Fin 4) :
    out8 m c t (ix5 0 0 h 0 0) = ((Data.wm (B1 m c) (B2 m c) (pe t) (pd t).val (ph t h) : ℝ) : EReal) := by
  unfold out8 Data.wm
  exact body_m _ _ _ _ _ _ _ _ _ _ _ _ _ _ _ _ _ _ _ _ _ _ _ _ _ _ _ _ _ _ _ _ _ _ _ _ _ _ (blk' H t) _ _ h

/-- The four result arrays after the run: any arrays of the scan's real numbers. -/
theorem final5 (A : FVec Ideal S2x8192x4096 .f32)
    (hA : ∀ (bb : Fin 32) (d : Fin 2) (h : Fin 8) (τ : ℕ) (x : Fin 512), τ < 256 → ∀ (r : Fin 8192) (y : Fin 4096), r.val = 256 * bb.val + rho d.val τ → y.val = 512 * h.val + x.val →
      A (ix3 d r y) = ((wO (B0 m c) (B1 m c) (B2 m c) bb d.val h τ x : ℝ) : EReal)) : (dats m 0 c).arrAt 5 (cfgs 0).N = A := by
  refine (dats m 0 c).arrAt_eq_of_covers 5 _ (by decide +kernel) fun t _ y => ?_
  blk_simp
  rw [after0_5]
  have key : ∀ y : S1x256x2048.Idx, out5 m c t y = A (((cfg0.win 5).blk t).view.emb y) := by
    intro y
    have ht : t.val < 128 := t.isLt
    obtain ⟨y1, y2, ey⟩ : ∃ (y1 : Fin 256) (y2 : Fin 2048), y = ix3 0 y1 y2 := ⟨⟨(y 1).val, (y 1).isLt⟩, ⟨(y 2).val, (y 2).isLt⟩, by
      funext a
      match a with
      | ⟨0, _⟩ => exact Fin.ext (Nat.lt_one_iff.mp (y 0).isLt)
      | ⟨1, _⟩ => rfl
      | ⟨2, _⟩ => rfl⟩
    subst ey
    have h1 := y1.isLt
    have h2 := y2.isLt
    have ea : A (((cfg0.win 5).blk t).view.emb (ix3 0 y1 y2)) = A (ix3 (pd t) ⟨256 * (t.val / 4) + y1.val, by omega⟩ ⟨2048 * (t.val / 2 % 2) + y2.val, by omega⟩) := by
      unfold pd
      blk_point [idx t]
    rw [ea, hA (pe t) (pd t) (ph t ⟨y2.val / 512, by omega⟩) (rho (t.val % 2) y1.val) ⟨y2.val % 512, by omega⟩ (rho_lt _ _ h1) _ _
      (by show 256 * (t.val / 4) + y1.val = 256 * (t.val / 4) + rho (t.val % 2) (rho (t.val % 2) y1.val); rw [rho_rho _ _ h1])
      (by show 2048 * (t.val / 2 % 2) + y2.val = 512 * (4 * (t.val / 2 % 2) + y2.val / 512) + y2.val % 512; omega)]
    exact out5_at H t ⟨y2.val / 512, by omega⟩ (rho (t.val % 2) y1.val) (rho_lt _ _ h1) ⟨y2.val % 512, by omega⟩ _ _ (rho_rho _ _ h1).symm
      (by show y2.val = 512 * (y2.val / 512) + y2.val % 512; omega)
  exact key y

theorem final6 (A : FVec Ideal S32x2x8x256x512 .f32)
    (hA : ∀ (bb : Fin 32) (d : Fin 2) (h : Fin 8) (i : Fin 256) (x : Fin 512), A (ix5 bb d h i x) = ((wC (B0 m c) (B1 m c) (B2 m c) bb d.val h i x : ℝ) : EReal)) : (dats m 0 c).arrAt 6 (cfgs 0).N = A := by
  refine (dats m 0 c).arrAt_eq_of_covers 6 _ (by decide +kernel) fun t _ y => ?_
  blk_simp
  rw [after0_6]
  have key : ∀ y : S1x1x4x256x512.Idx, out6 m c t y = A (((cfg0.win 6).blk t).view.emb y) := by
    intro y
    obtain ⟨y2, y3, y4, ey⟩ : ∃ (y2 : Fin 4) (y3 : Fin 256) (y4 : Fin 512), y = ix5 0 0 y2 y3 y4 := ⟨⟨(y 2).val, (y 2).isLt⟩, ⟨(y 3).val, (y 3).isLt⟩, ⟨(y 4).val, (y 4).isLt⟩, by
      funext a
      match a with
      | ⟨0, _⟩ => exact Fin.ext (Nat.lt_one_iff.mp (y 0).isLt)
      | ⟨1, _⟩ => exact Fin.ext (Nat.lt_one_iff.mp (y 1).isLt)
      | ⟨2, _⟩ => rfl
      | ⟨3, _⟩ => rfl
      | ⟨4, _⟩ => rfl⟩
    subst ey
    have ea : A (((cfg0.win 6).blk t).view.emb (ix5 0 0 y2 y3 y4)) = A (ix5 (pe t) (pd t) (ph t y2) y3 y4) := by
      unfold pe pd ph
      blk_point [idx t]
    rw [ea, hA]
    exact out6_at H t y2 y3 y4
  exact key y

theorem final7 (A : FVec Ideal S32x2x8x1x256 .f32)
    (hA : ∀ (bb : Fin 32) (d : Fin 2) (h : Fin 8) (i : Fin 256), A (ix5 bb d h 0 i) = ((wn (B0 m c) (B1 m c) (B2 m c) bb d.val h i : ℝ) : EReal)) : (dats m 0 c).arrAt 7 (cfgs 0).N = A := by
  refine (dats m 0 c).arrAt_eq_of_covers 7 _ (by decide +kernel) fun t _ y => ?_
  blk_simp
  rw [after0_7]
  have key : ∀ y : S1x1x4x1x256.Idx, out7 m c t y = A (((cfg0.win 7).blk t).view.emb y) := by
    intro y
    obtain ⟨y2, y4, ey⟩ : ∃ (y2 : Fin 4) (y4 : Fin 256), y = ix5 0 0 y2 0 y4 := ⟨⟨(y 2).val, (y 2).isLt⟩, ⟨(y 4).val, (y 4).isLt⟩, by
      funext a
      match a with
      | ⟨0, _⟩ => exact Fin.ext (Nat.lt_one_iff.mp (y 0).isLt)
      | ⟨1, _⟩ => exact Fin.ext (Nat.lt_one_iff.mp (y 1).isLt)
      | ⟨2, _⟩ => rfl
      | ⟨3, _⟩ => exact Fin.ext (Nat.lt_one_iff.mp (y 3).isLt)
      | ⟨4, _⟩ => rfl⟩
    subst ey
    have ea : A (((cfg0.win 7).blk t).view.emb (ix5 0 0 y2 0 y4)) = A (ix5 (pe t) (pd t) (ph t y2) 0 y4) := by
      unfold pe pd ph
      blk_point [idx t]
    rw [ea, hA]
    exact out7_at H t y2 y4
  exact key y

theorem final8 (A : FVec Ideal S32x2x8x1x1 .f32)
    (hA : ∀ (bb : Fin 32) (d : Fin 2) (h : Fin 8), A (ix5 bb d h 0 0) = ((Data.wm (B1 m c) (B2 m c) bb d.val h : ℝ) : EReal)) : (dats m 0 c).arrAt 8 (cfgs 0).N = A := by
  refine (dats m 0 c).arrAt_eq_of_covers 8 _ (by decide +kernel) fun t _ y => ?_
  blk_simp
  rw [after0_8]
  have key : ∀ y : S1x1x4x1x1.Idx, out8 m c t y = A (((cfg0.win 8).blk t).view.emb y) := by
    intro y
    obtain ⟨y2, ey⟩ : ∃ (y2 : Fin 4), y = ix5 0 0 y2 0 0 := ⟨⟨(y 2).val, (y 2).isLt⟩, by
      funext a
      match a with
      | ⟨0, _⟩ => exact Fin.ext (Nat.lt_one_iff.mp (y 0).isLt)
      | ⟨1, _⟩ => exact Fin.ext (Nat.lt_one_iff.mp (y 1).isLt)
      | ⟨2, _⟩ => rfl
      | ⟨3, _⟩ => exact Fin.ext (Nat.lt_one_iff.mp (y 3).isLt)
      | ⟨4, _⟩ => exact Fin.ext (Nat.lt_one_iff.mp (y 4).isLt)⟩
    subst ey
    have ea : A (((cfg0.win 8).blk t).view.emb (ix5 0 0 y2 0 0)) = A (ix5 (pe t) (pd t) (ph t y2) 0 0) := by
      unfold pe pd ph
      blk_point [idx t]
    rw [ea, hA]
    exact out8_at H t y2
  exact key y

end Cert.Scan

end
-- ==== Proof.Value.lean ====
/- What the scan's kernel leaves in its results is what the reference leaves in its own, of finite arguments. -/
module

public import proofs.«01_k».proof.Pre_inputs_finite
public import proofs.«01_k».proof.Proof.Entry
public import proofs.«01_k».proof.Proof.Final
public import Idealize.ShloMosaic.Lib.ReduceAll

@[expose] public section

set_option maxRecDepth 16384

noncomputable section

namespace Cert.Pre_inputs_finite

open Idealize.ShloMosaic

/-- The facts the precondition's function states. -/
instance facts : Cert.Pre_inputs_finite.Facts where
  bcast_S_S8192x4096 := by decide
  reducesTo_S8192x4096_S_d0_1 := by decide
  h_S_ := by decide
  bcast_S_S16384x12320 := by decide
  reducesTo_S16384x12320_S_d0_1 := by decide
  bcast_S_S2x2x8 := by decide
  reducesTo_S2x2x8_S_d0_1_2 := by decide

/-- A value whose magnitude is under the infinity is a real number. -/
theorem real_of (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton S_.Idx := ⟨fun a b => funext fun i => i.elim0⟩

/-- An array whose test came out one holds real numbers. -/
theorem all_real {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32))) (constantI S_ 1 1#1) hr hu = (fun _ => 1#1)) :
    ∀ i, ∃ r : ℝ, x i = (r : EReal) := fun i =>
  real_of _ (Host.reduce_andi_all _ _ hr hu (fun a => a.elim0) (congrFun e _) i)

theorem real3 (a0 : FVec Ideal S8192x4096 .f32) (a1 : FVec Ideal S16384x12320 .f32) (a2 : FVec Ideal S2x2x8 .f32)
    (h : (fn (F := Ideal) a0 a1 a2).1 = (fun _ => 1#1) ∧ (fn (F := Ideal) a0 a1 a2).2.1 = (fun _ => 1#1) ∧ (fn (F := Ideal) a0 a1 a2).2.2 = (fun _ => 1#1)) :
    Cert.Data.Real3 a0 a1 a2 := by
  unfold fn at h
  dsimp only at h
  obtain ⟨e0, e1, e2⟩ := h
  exact ⟨all_real a0 _ _ _ e0, all_real a1 _ _ _ e1, all_real a2 _ _ _ e2⟩

end Cert.Pre_inputs_finite

namespace Cert.Ref

open Cert.ReferenceIdeal Cert.ReferenceIdeal.Gen Cert.ReferenceIdeal.Value Cert.Seq Cert.Data Cert.Scan
open Idealize.ShloMosaic Idealize.ShloMosaic.TcCoe

/-- The reference's state after its four steps, of any arrays equal to its arguments. -/
theorem inv4_of (m : (ℓ : Loc nD τ sig) → Buf (Elt Ideal) ℓ) (c : Dev nD)
    (a0 : FVec Ideal S8192x4096 .f32) (a1 : FVec Ideal S16384x12320 .f32) (a2 : FVec Ideal S2x2x8 .f32)
    (h0 : m ((c : Thread nD τ).loc main_arg0) = a0) (h1 : m ((c : Thread nD τ).loc main_arg1) = a1) (h2 : m ((c : Thread nD τ).loc main_arg2) = a2) (H : Real3 a0 a1 a2) :
    Inv (fun b h τ d => qs a0 (ex b) (dir b).val h τ d * (1 / 16)) (fun b h τ d => ks a0 (ex b) (dir b).val h τ d)
      (fun b h τ x => vs a1 (ex b) (dir b).val h τ x) (fun b h τ => gs a1 a2 (ex b) (dir b).val 0 h τ)
      (fun b h τ => lsig (gs a1 a2 (ex b) (dir b).val 1 h τ)) 4 (STEP^[4] (E m c)) := by
  subst h0 h1 h2
  exact inv4 (m := m) (c := c) H

end Cert.Ref

namespace Cert.Scan

open Cert.KernelIdeal Cert.KernelIdeal.Gen
open Idealize.ShloMosaic Idealize.ShloMosaic.TcCoe Idealize.SL.Sem

/-- The kernel's run with its four result arrays named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0) = (dats m 0 c).arrAt 5 (cfgs 0).N
      ∧ r.2.mem ((c.tc : Thread nD τ).loc main_v6_1) = (dats m 0 c).arrAt 6 (cfgs 0).N
      ∧ r.2.mem ((c.tc : Thread nD τ).loc main_v6_2) = (dats m 0 c).arrAt 7 (cfgs 0).N
      ∧ r.2.mem ((c.tc : Thread nD τ).loc main_v6_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 5, (h.1 c).1 6, (h.1 c).1 7, (h.1 c).1 8,
    ((h.1 c).1 1).trans (((dats m 0 c).arrAt_in 1 rfl _).trans ((A_eq m c 1).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_main m ρ)

variable {m : (ℓ : Loc nD τ sig) → Buf (Elt Ideal) ℓ} {c : Dev nD}
  {m' : (ℓ : Loc Cert.ReferenceIdeal.nD Cert.ReferenceIdeal.τ Cert.ReferenceIdeal.sig) → Buf (Elt Ideal) ℓ}
  (H : Cert.Data.Real3 (B0 m c) (B1 m c) (B2 m c))
  (h0 : m' ((c.tc : Thread Cert.ReferenceIdeal.nD Cert.ReferenceIdeal.τ).loc Cert.ReferenceIdeal.main_arg0) = B0 m c)
  (h1 : m' ((c.tc : Thread Cert.ReferenceIdeal.nD Cert.ReferenceIdeal.τ).loc Cert.ReferenceIdeal.main_arg1) = B1 m c)
  (h2 : m' ((c.tc : Thread Cert.ReferenceIdeal.nD Cert.ReferenceIdeal.τ).loc Cert.ReferenceIdeal.main_arg2) = B2 m c)
include H h0 h1 h2

/-- The kernel's four results are the reference's. -/
theorem same5 : (dats m 0 c).arrAt 5 (cfgs 0).N = Cert.ReferenceIdeal.Value.out_main_v66 (Cert.ReferenceIdeal.Value.STEP^[4] (Cert.Ref.E m' c)) :=
  final5 H _ fun bb d h τ x hτ r y hr hy => Cert.Ref.o66 (Cert.Ref.inv4_of m' c _ _ _ h0 h1 h2 H) bb d h τ x hτ r y hr hy
theorem same6 : (dats m 0 c).arrAt 6 (cfgs 0).N = Cert.ReferenceIdeal.Value.out_main_v71 (Cert.ReferenceIdeal.Value.STEP^[4] (Cert.Ref.E m' c)) :=
  final6 H _ fun bb d h i x => Cert.Ref.o71 (Cert.Ref.inv4_of m' c _ _ _ h0 h1 h2 H) bb d h i x
theorem same7 : (dats m 0 c).arrAt 7 (cfgs 0).N = Cert.ReferenceIdeal.Value.out_main_v77 (Cert.ReferenceIdeal.Value.STEP^[4] (Cert.Ref.E m' c)) :=
  final7 H _ fun bb d h i => Cert.Ref.o77 (Cert.Ref.inv4_of m' c _ _ _ h0 h1 h2 H) bb d h i
theorem same8 : (dats m 0 c).arrAt 8 (cfgs 0).N = Cert.ReferenceIdeal.Value.out_main_v83 (Cert.ReferenceIdeal.Value.STEP^[4] (Cert.Ref.E m' c)) :=
  final8 H _ fun bb d h => Cert.Ref.o83 (Cert.Ref.inv4_of m' c _ _ _ h0 h1 h2 H) bb d h

end Cert.Scan

end
-- ==== Proof.Up.lean ====
/- What the gated up-projection computes: its result array is the plain formula of the reference, over the arguments. -/
module

public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Up

open Cert.Kernel2Ideal Cert.Kernel2Ideal.Gen

variable (m : (ℓ : Loc nD τ sig) → Buf (Elt Ideal) ℓ)

/-- One projection of the rows `h` by the first layer's first weight matrix of a stack of them. -/
abbrev proj (h : FVec Ideal Cert.Reference2Ideal.S16384x4096 .f32) (w : FVec Ideal Cert.Reference2Ideal.S4x2x4096x11008 .f32) :
    FVec Ideal Cert.Reference2Ideal.S16384x11008 .f32 :=
  Host.dotGeneral Cert.Reference2Ideal.dot_S16384x4096_S4096x11008_S16384x11008_1_0_0_1_n_n none h
    (shapeCast _ (extractStridedSlice Cert.Reference2Ideal.S1x1x4096x11008 ![0, 0, 0, 0] w
      Cert.Reference2Ideal.Gen.slices_S4x2x4096x11008_S1x1x4096x11008_0_0_0_0)
      Cert.Reference2Ideal.Gen.shapeCasts_S1x1x4096x11008_S4096x11008)

/-- The reference's result: one projection through x/(1+exp(−x)), times the other projection. -/
abbrev want (h : FVec Ideal Cert.Reference2Ideal.S16384x4096 .f32) (wg wu : FVec Ideal Cert.Reference2Ideal.S4x2x4096x11008 .f32) :
    FVec Ideal Cert.Reference2Ideal.S16384x11008 .bf16 :=
  truncf .bf16 (mulf (mulf (proj h wg) (Host.divf
      (broadcastInDim Cert.Reference2Ideal.S16384x11008 ![] Cert.Reference2Ideal.Gen.bcast_S_S16384x11008
        (constant Cert.Reference2Ideal.S_ .f32 0x3F800000#32))
      (addf (broadcastInDim Cert.Reference2Ideal.S16384x11008 ![] Cert.Reference2Ideal.Gen.bcast_S_S16384x11008
        (constant Cert.Reference2Ideal.S_ .f32 0x3F800000#32)) (Host.exp (Host.negf (proj h wg))))))
    (proj h wu)) Cert.Reference2Ideal.Gen.bitsLt_bf16_f32

/-- Where each window's block lies at each grid point. -/
theorem idx : ∀ t : Fin cfg0.N, win0_0.index t = ![t.val / 43, 0] ∧ win0_1.index t = ![0, 0, t.val % 43]
    ∧ win0_2.index t = ![0, 0, t.val % 43] ∧ win0_3.index t = ![t.val / 43, t.val % 43] ∧ t.val / 43 < 16 :=
  (by decide +kernel : ∀ t : Fin grid0.N, _)

/-- What the body stores at a place of a point's block is the reference's formula at the array place that it is. -/
theorem point (c : Dev nD) (t : Fin cfg0.N) (y) : k0_pay1 (iblk m c 0 t) (iblk m c 1 t) (iblk m c 2 t) y
    = want (m ((c : Thread nD τ).loc main_arg0)) (m ((c : Thread nD τ).loc main_arg1))
        (m ((c : Thread nD τ).loc main_arg2)) (((cfg0.win 3).blk t).view.emb y) := by
  pointwise [k0_pay1, want, proj]
  simp only [sub_eq_add_neg, zero_add]
  blk_point [iblk, V, idx t]

/-- The result array after the run. -/
theorem final (c : Dev nD) : (dats m 0 c).arrAt 3 (cfgs 0).N
    = want (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.Up

end
-- ==== Proof.Down.lean ====
/- What the gated down-projection with its residual computes: its result array is the plain formula of the reference, over the
   arguments. -/
module

public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Down

open Cert.Kernel3Ideal Cert.Kernel3Ideal.Gen

variable (m : (ℓ : Loc nD τ sig) → Buf (Elt Ideal) ℓ)

/-- The gate of every row: the context's for the first 8192 rows, then that of each of the four latent requests. -/
abbrev gate (g : FVec Ideal Cert.Reference3Ideal.S8x9x4096 .f32) : FVec Ideal Cert.Reference3Ideal.S16384x4096 .f32 :=
  concatenate Cert.Reference3Ideal.S16384x4096 0
    [⟨Cert.Reference3Ideal.S8192x4096, (broadcastInDim Cert.Reference3Ideal.S8192x4096 ![1] Cert.Reference3Ideal.Gen.bcast_S4096_S8192x4096_1
        (shapeCast _ (extractStridedSlice Cert.Reference3Ideal.S1x1x4096 ![0, 2, 0] g Cert.Reference3Ideal.Gen.slices_S8x9x4096_S1x1x4096_0_2_0)
          Cert.Reference3Ideal.Gen.shapeCasts_S1x1x4096_S4096))⟩,
     ⟨Cert.Reference3Ideal.S8192x4096, (shapeCast _ (broadcastInDim Cert.Reference3Ideal.S4x2048x4096 ![0, 1, 2] Cert.Reference3Ideal.Gen.bcast_S4x1x4096_S4x2048x4096_0_1_2
        (broadcastInDim Cert.Reference3Ideal.S4x1x4096 ![0, 2] Cert.Reference3Ideal.Gen.bcast_S4x4096_S4x1x4096_0_2
          (shapeCast _ (extractStridedSlice Cert.Reference3Ideal.S4x1x4096 ![1, 2, 0] g Cert.Reference3Ideal.Gen.slices_S8x9x4096_S4x1x4096_1_2_0)
            Cert.Reference3Ideal.Gen.shapeCasts_S4x1x4096_S4x4096)))
        Cert.Reference3Ideal.Gen.shapeCasts_S4x2048x4096_S8192x4096)⟩]
    Cert.Reference3Ideal.Gen.concatenates_S8192x4096_S8192x4096_S16384x4096_d0

/-- The reference's result: the residual plus half the gate times the projection. -/
abbrev want (a : FVec Ideal Cert.Reference3Ideal.S16384x11008 .f32) (w : FVec Ideal Cert.Reference3Ideal.S4x2x11008x4096 .f32)
    (x : FVec Ideal Cert.Reference3Ideal.S16384x4096 .f32) (g : FVec Ideal Cert.Reference3Ideal.S8x9x4096 .f32) :
    FVec Ideal Cert.Reference3Ideal.S16384x4096 .f32 :=
  addf x (mulf (mulf (broadcastInDim Cert.Reference3Ideal.S16384x4096 ![] Cert.Reference3Ideal.Gen.bcast_S_S16384x4096
      (constant Cert.Reference3Ideal.S_ .f32 0x3F000000#32)) (gate g))
    (Host.dotGeneral Cert.Reference3Ideal.dot_S16384x11008_S11008x4096_S16384x4096_1_0_0_1_n_n none a
      (shapeCast _ (extractStridedSlice Cert.Reference3Ideal.S1x1x11008x4096 ![0, 0, 0, 0] w
        Cert.Reference3Ideal.Gen.slices_S4x2x11008x4096_S1x1x11008x4096_0_0_0_0)
        Cert.Reference3Ideal.Gen.shapeCasts_S1x1x11008x4096_S11008x4096)))

/-- Where each window's block lies at each grid point. -/
theorem idx : ∀ t : Fin cfg0.N, win0_0.index t = ![t.val / 8, 0] ∧ win0_1.index t = ![0, 0, t.val % 8]
    ∧ win0_2.index t = ![t.val / 8, t.val % 8]
    ∧ win0_3.index t = ![if t.val / 8 < 16 then 0 else 1 + (t.val / 8 - 16) / 4, 0, t.val % 8]
    ∧ win0_4.index t = ![t.val / 8, t.val % 8] ∧ t.val / 8 < 32 :=
  (by decide +kernel : ∀ t : Fin grid0.N, _)

/-- What the body stores at a place of a point's block is the reference's formula at the array place that it is. -/
theorem point (c : Dev nD) (t : Fin cfg0.N) (y) : k0_pay1 (iblk m c 0 t) (iblk m c 1 t) (iblk m c 3 t) (iblk m c 2 t) y
    = want (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, want, gate]
  blk_point [iblk, V, idx t]
  all_goals
    rename_i h _
    blk_simp [idx t] at h
    simp only [Matrix.cons_val_zero] at h
    split <;> omega

/-- The result array after the run. -/
theorem final (c : Dev nD) : (dats m 0 c).arrAt 4 (cfgs 0).N
    = want (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Down

end
-- ==== Proof.MixIn.lean ====
/- What the input projection of the first layer's mixer computes: its result array is the plain product, over the arguments. -/
module

public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixIn

open Cert.Kernel4Ideal Cert.Kernel4Ideal.Gen

variable (m : (ℓ : Loc nD τ sig) → Buf (Elt Ideal) ℓ)

/-- The reference's result: the rows `h` times the first weight matrix, but for its last columns. -/
abbrev want (h : FVec Ideal Cert.Reference4Ideal.S16384x4096 .f32) (w : FVec Ideal Cert.Reference4Ideal.S2x4096x12320 .f32) : FVec Ideal Cert.Reference4Ideal.S16384x12288 .f32 :=
  extractStridedSlice Cert.Reference4Ideal.S16384x12288 ![0, 0]
    (Host.dotGeneral Cert.Reference4Ideal.dot_S16384x4096_S4096x12320_S16384x12320_1_0_0_1_n_n none h
      (shapeCast _ (extractStridedSlice Cert.Reference4Ideal.S1x4096x12320 ![0, 0, 0] w Cert.Reference4Ideal.Gen.slices_S2x4096x12320_S1x4096x12320_0_0_0)
        Cert.Reference4Ideal.Gen.shapeCasts_S1x4096x12320_S4096x12320))
    Cert.Reference4Ideal.Gen.slices_S16384x12320_S16384x12288_0_0

/-- Where each window's block lies at each grid point. -/
theorem idx : ∀ t : Fin cfg0.N, win0_0.index t = ![t.val / 24, 0] ∧ win0_1.index t = ![0, t.val % 24]
    ∧ win0_2.index t = ![t.val / 24, t.val % 24] ∧ t.val / 24 < 16 :=
  (by decide +kernel : ∀ t : Fin grid0.N, _)

/-- What the body stores at a place of a point's block is the reference's formula at the array place that it is. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixIn

end
-- ==== Proof.MixOut.lean ====
/- What the mixer's output projection with its gate and residual computes: its result array is the plain formula of the reference, over the
   arguments. -/
module

public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOut

open Cert.Kernel5Ideal Cert.Kernel5Ideal.Gen

variable (m : (ℓ : Loc nD τ sig) → Buf (Elt Ideal) ℓ)

/-- The gate of every row: the context's for the first 8192 rows, then that of each of the four latent requests. -/
abbrev gate (g : FVec Ideal Cert.Reference5Ideal.S8x9x4096 .f32) : FVec Ideal Cert.Reference5Ideal.S16384x4096 .f32 :=
  concatenate Cert.Reference5Ideal.S16384x4096 0
    [⟨Cert.Reference5Ideal.S8192x4096, (broadcastInDim Cert.Reference5Ideal.S8192x4096 ![1] Cert.Reference5Ideal.Gen.bcast_S4096_S8192x4096_1
        (shapeCast _ (extractStridedSlice Cert.Reference5Ideal.S1x1x4096 ![0, 5, 0] g Cert.Reference5Ideal.Gen.slices_S8x9x4096_S1x1x4096_0_5_0)
          Cert.Reference5Ideal.Gen.shapeCasts_S1x1x4096_S4096))⟩,
     ⟨Cert.Reference5Ideal.S8192x4096, (shapeCast _ (broadcastInDim Cert.Reference5Ideal.S4x2048x4096 ![0, 1, 2] Cert.Reference5Ideal.Gen.bcast_S4x1x4096_S4x2048x4096_0_1_2
        (broadcastInDim Cert.Reference5Ideal.S4x1x4096 ![0, 2] Cert.Reference5Ideal.Gen.bcast_S4x4096_S4x1x4096_0_2
          (shapeCast _ (extractStridedSlice Cert.Reference5Ideal.S4x1x4096 ![1, 5, 0] g Cert.Reference5Ideal.Gen.slices_S8x9x4096_S4x1x4096_1_5_0)
            Cert.Reference5Ideal.Gen.shapeCasts_S4x1x4096_S4x4096)))
        Cert.Reference5Ideal.Gen.shapeCasts_S4x2048x4096_S8192x4096)⟩]
    Cert.Reference5Ideal.Gen.concatenates_S8192x4096_S8192x4096_S16384x4096_d0

/-- The reference's result: the residual plus the gate times the projection. -/
abbrev want (a : FVec Ideal Cert.Reference5Ideal.S16384x4096 .f32) (w : FVec Ideal Cert.Reference5Ideal.S2x4096x4096 .f32)
    (x : FVec Ideal Cert.Reference5Ideal.S16384x4096 .f32) (g : FVec Ideal Cert.Reference5Ideal.S8x9x4096 .f32) :
    FVec Ideal Cert.Reference5Ideal.S16384x4096 .f32 :=
  addf x (mulf (gate g) (Host.dotGeneral Cert.Reference5Ideal.dot_S16384x4096_S4096x4096_S16384x4096_1_0_0_1_n_n none a
      (shapeCast _ (extractStridedSlice Cert.Reference5Ideal.S1x4096x4096 ![0, 0, 0] w Cert.Reference5Ideal.Gen.slices_S2x4096x4096_S1x4096x4096_0_0_0)
        Cert.Reference5Ideal.Gen.shapeCasts_S1x4096x4096_S4096x4096)))

/-- Where each window's block lies at each grid point. -/
theorem idx : ∀ t : Fin cfg0.N, win0_0.index t = ![t.val / 8, 0] ∧ win0_1.index t = ![0, 0, t.val % 8]
    ∧ win0_2.index t = ![t.val / 8, t.val % 8]
    ∧ win0_3.index t = ![if t.val / 8 < 8 then 0 else 1 + (t.val / 8 - 8) / 2, 0, t.val % 8]
    ∧ win0_4.index t = ![t.val / 8, t.val % 8] ∧ t.val / 8 < 16 :=
  (by decide +kernel : ∀ t : Fin grid0.N, _)

/-- What the body stores at a place of a point's block is the reference's formula at the array place that it is. -/
theorem point (c : Dev nD) (t : Fin cfg0.N) (y) : k0_pay1 (iblk m c 0 t) (iblk m c 1 t) (iblk m c 3 t) (iblk m c 2 t) y
    = want (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, want, gate]
  blk_point [iblk, V, idx t]
  all_goals
    rename_i h _
    blk_simp [idx t] at h
    simp only [Matrix.cons_val_zero] at h
    split <;> omega

/-- The result array after the run. -/
theorem final (c : Dev nD) : (dats m 0 c).arrAt 4 (cfgs 0).N
    = want (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.MixOut

end
-- ==== Proof.GatedIn.lean ====
/- What the input projection of the second layer's mixer computes: its result array is the plain product, over the arguments. -/
module

public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatedIn

open Cert.Kernel6Ideal Cert.Kernel6Ideal.Gen

variable (m : (ℓ : Loc nD τ sig) → Buf (Elt Ideal) ℓ)

/-- The reference's result: the rows `h` times the weight matrix. -/
abbrev want (h : FVec Ideal Cert.Reference6Ideal.S16384x4096 .f32) (w : FVec Ideal Cert.Reference6Ideal.S1x4096x20480 .f32) : FVec Ideal Cert.Reference6Ideal.S16384x20480 .f32 :=
  Host.dotGeneral Cert.Reference6Ideal.dot_S16384x4096_S4096x20480_S16384x20480_1_0_0_1_n_n none h
    (shapeCast _ w Cert.Reference6Ideal.Gen.shapeCasts_S1x4096x20480_S4096x20480)

/-- Where each window's block lies at each grid point. -/
theorem idx : ∀ t : Fin cfg0.N, win0_0.index t = ![t.val / 40, 0] ∧ win0_1.index t = ![0, t.val % 40]
    ∧ win0_2.index t = ![t.val / 40, t.val % 40] ∧ t.val / 40 < 16 :=
  (by decide +kernel : ∀ t : Fin grid0.N, _)

/-- What the body stores at a place of a point's block is the reference's formula at the array place that it is. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The result array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GatedIn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Frame
public import proofs.«01_k».proof.Proof.Value
public import proofs.«01_k».proof.Proof.Up
public import proofs.«01_k».proof.Proof.Down
public import proofs.«01_k».proof.Proof.MixIn
public import proofs.«01_k».proof.Proof.MixOut
public import proofs.«01_k».proof.Proof.GatedIn
public import Idealize.ShloMosaic.Lib.Quiescent
public import Idealize.ShloMosaic.Lib.Claim

@[expose] public section

noncomputable section

namespace Cert.Proof

open Idealize.ShloMosaic Idealize.ShloMosaic.TcCoe Idealize.SL.Sem

/-- The facts the kernel's printed program states. -/
instance : Cert.Kernel.Facts := Cert.Kernel.Gen.facts
instance : Cert.KernelIdeal.Facts := Cert.KernelIdeal.Gen.facts
instance : Cert.ReferenceIdeal.Facts := Cert.ReferenceIdeal.Gen.facts

set_option maxRecDepth 16384

/-- The two programs' text is one: the kernel's body is the idealization's. -/
theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

/-- So is the table of bodies around it. -/
theorem defs_eq : Cert.Kernel.defs (F := Bits) = Cert.KernelIdeal.defs (F := Bits) := by
  unfold Cert.Kernel.defs Cert.KernelIdeal.defs
  exact congrArg _ defs₀_eq

/-- The kernel at its floats runs to its end, its arguments unchanged: the run over any float values, at the words. -/
theorem frame_kernel : Cert.quiescent_Kernel := fun m ρ _ => by
  rw [defs_eq]
  exact Cert.Scan.frame (F := Bits) m ρ

/-- The idealized kernel's frame: the same run. -/
theorem frame_kernelIdeal : Cert.quiescent_KernelIdeal := fun m ρ _ => Cert.Scan.frame (F := Ideal) m ρ

/-- The reference runs to its end, its arguments unchanged; it declares no semaphore. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The up-projection's reference runs to its end, its arguments unchanged. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The down-projection's reference runs to its end, its arguments unchanged. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The mixer's input projection's reference runs to its end, its arguments unchanged. -/
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The mixer's output projection's reference runs to its end, its arguments unchanged. -/
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The second mixer's input projection's reference runs to its end, its arguments unchanged. -/
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The scan computes the reference's scan over the reals, of finite arguments. -/
theorem value_scan : Cert.algebraic_KernelIdeal_ReferenceIdeal_pre_inputs_finite := by
  intro m g m' g' hpre hagree
  have H := fun c => Cert.Pre_inputs_finite.real3 _ _ _ (hpre c)
  exact ⟨fun c => Cert.ReferenceIdeal.Value.out_main_v66 (Cert.ReferenceIdeal.Value.STEP^[4] (Cert.Ref.E m' c)),
    fun c => Cert.ReferenceIdeal.Value.out_main_v71 (Cert.ReferenceIdeal.Value.STEP^[4] (Cert.Ref.E m' c)),
    fun c => Cert.ReferenceIdeal.Value.out_main_v77 (Cert.ReferenceIdeal.Value.STEP^[4] (Cert.Ref.E m' c)),
    fun c => Cert.ReferenceIdeal.Value.out_main_v83 (Cert.ReferenceIdeal.Value.STEP^[4] (Cert.Ref.E m' c)),
    (θ_run Cert.KernelIdeal.defs _ _).mono (fun r h c =>
      ⟨(h c).1.trans (Cert.Scan.same5 (H c) (hagree c).1 (hagree c).2.1 (hagree c).2.2),
        (h c).2.1.trans (Cert.Scan.same6 (H c) (hagree c).1 (hagree c).2.1 (hagree c).2.2),
        (h c).2.2.1.trans (Cert.Scan.same7 (H c) (hagree c).1 (hagree c).2.1 (hagree c).2.2),
        (h c).2.2.2.1.trans (Cert.Scan.same8 (H c) (hagree c).1 (hagree c).2.1 (hagree c).2.2), (h c).2.2.2.2⟩) (Cert.Scan.run_values m g),
    Cert.ReferenceIdeal.Value.run (F := Ideal) m' g'⟩

/-- The gated up-projection computes the reference's formula over the reals. -/
theorem value_up : Cert.algebraic_Kernel2Ideal_Reference2Ideal := by
  pair_intro
  · run_from Cert.Kernel2Ideal.Value.run_blocks m g
  · run_from Cert.Reference2Ideal.Value.run m' g'
    exact (Cert.Up.final m c).symm

/-- The gated down-projection with its residual computes the reference's formula over the reals. -/
theorem value_down : Cert.algebraic_Kernel3Ideal_Reference3Ideal := by
  pair_intro
  · run_from Cert.Kernel3Ideal.Value.run_blocks m g
  · run_from Cert.Reference3Ideal.Value.run m' g'
    exact (congrArg (Cert.Down.want (m (c.tc.loc Cert.Kernel3Ideal.main_arg0)) (m (c.tc.loc Cert.Kernel3Ideal.main_arg1))
      (m (c.tc.loc Cert.Kernel3Ideal.main_arg2))) (hagree c).2.2.2).trans (Cert.Down.final m c).symm

/-- The mixer's input projection computes the plain product over the reals. -/
theorem value_mixIn : Cert.algebraic_Kernel4Ideal_Reference4Ideal := by
  pair_intro
  · run_from Cert.Kernel4Ideal.Value.run_blocks m g
  · run_from Cert.Reference4Ideal.Value.run m' g'
    exact (Cert.MixIn.final m c).symm

/-- The mixer's output projection with gate and residual computes the reference's formula over the reals. -/
theorem value_mixOut : Cert.algebraic_Kernel5Ideal_Reference5Ideal := by
  pair_intro
  · run_from Cert.Kernel5Ideal.Value.run_blocks m g
  · run_from Cert.Reference5Ideal.Value.run m' g'
    exact (congrArg (Cert.MixOut.want (m (c.tc.loc Cert.Kernel5Ideal.main_arg0)) (m (c.tc.loc Cert.Kernel5Ideal.main_arg1))
      (m (c.tc.loc Cert.Kernel5Ideal.main_arg2))) (hagree c).2.2.2).trans (Cert.MixOut.final m c).symm

/-- The second mixer's input projection computes the plain product over the reals. -/
theorem value_gatedIn : Cert.algebraic_Kernel6Ideal_Reference6Ideal := by
  pair_intro
  · run_from Cert.Kernel6Ideal.Value.run_blocks m g
  · run_from Cert.Reference6Ideal.Value.run m' g'
    exact (Cert.GatedIn.final m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_inputs_finite.facts,
    frame_kernel, frame_kernelIdeal, fun m ρ _ => Cert.Scan.frame (F := Ideal) m ρ, frame_referenceIdeal, fun m ρ _ => frame_referenceIdeal m ρ trivial,
    fun m ρ _ => Cert.Kernel2.Gen.frame m ρ, fun m ρ _ => Cert.Kernel2Ideal.Gen.frame m ρ, frame_reference2Ideal,
    fun m ρ _ => Cert.Kernel3.Gen.frame m ρ, fun m ρ _ => Cert.Kernel3Ideal.Gen.frame m ρ, frame_reference3Ideal,
    fun m ρ _ => Cert.Kernel4.Gen.frame m ρ, fun m ρ _ => Cert.Kernel4Ideal.Gen.frame m ρ, frame_reference4Ideal,
    fun m ρ _ => Cert.Kernel5.Gen.frame m ρ, fun m ρ _ => Cert.Kernel5Ideal.Gen.frame m ρ, frame_reference5Ideal,
    fun m ρ _ => Cert.Kernel6.Gen.frame m ρ, fun m ρ _ => Cert.Kernel6Ideal.Gen.frame m ρ, frame_reference6Ideal,
    trivial, value_scan, trivial, value_up, trivial, value_down, trivial, value_mixIn, trivial, value_mixOut, trivial, value_gatedIn⟩

end Cert.Proof

end
